-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.1 = (fun _ => 1#1)
    ∧ (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.1 = (fun _ => 1#1)
    ∧ (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_ok [hPre_gates_ok : Cert.Pre_gates_ok.Facts] (m : (ℓ : Loc Cert.MoeIdeal.nD Cert.MoeIdeal.τ Cert.MoeIdeal.sig) → Buf (Elt Ideal) ℓ) : Prop :=
  ∀ c : Dev Cert.MoeIdeal.nD,
    (Cert.Pre_gates_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gates_ok [hPre_gates_ok : Cert.Pre_gates_ok.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gates_ok.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DiffTwo (m : (ℓ : Loc Cert.DiffTwo.nD Cert.DiffTwo.τ Cert.DiffTwo.sig) → Buf (Elt Bits) ℓ) : Prop :=
  True

def Pre_DiffTwoIdeal (m : (ℓ : Loc Cert.DiffTwoIdeal.nD Cert.DiffTwoIdeal.τ Cert.DiffTwoIdeal.sig) → Buf (Elt Ideal) ℓ) : Prop :=
  True

def Pre_DiffTwoIdeal_diff_finite [hPre_diff_finite : Cert.Pre_diff_finite.Facts] (m : (ℓ : Loc Cert.DiffTwoIdeal.nD Cert.DiffTwoIdeal.τ Cert.DiffTwoIdeal.sig) → Buf (Elt Ideal) ℓ) : Prop :=
  ∀ c : Dev Cert.DiffTwoIdeal.nD,
    (Cert.Pre_diff_finite.fn (F := Ideal) (m ((c.tc : Thread Cert.DiffTwoIdeal.nD Cert.DiffTwoIdeal.τ).loc Cert.DiffTwoIdeal.main_arg0)) (m ((c.tc : Thread Cert.DiffTwoIdeal.nD Cert.DiffTwoIdeal.τ).loc Cert.DiffTwoIdeal.main_arg1)) (m ((c.tc : Thread Cert.DiffTwoIdeal.nD Cert.DiffTwoIdeal.τ).loc Cert.DiffTwoIdeal.main_arg2)) (m ((c.tc : Thread Cert.DiffTwoIdeal.nD Cert.DiffTwoIdeal.τ).loc Cert.DiffTwoIdeal.main_arg3)) (m ((c.tc : Thread Cert.DiffTwoIdeal.nD Cert.DiffTwoIdeal.τ).loc Cert.DiffTwoIdeal.main_arg4))).1 = (fun _ => 1#1)
    ∧ (Cert.Pre_diff_finite.fn (F := Ideal) (m ((c.tc : Thread Cert.DiffTwoIdeal.nD Cert.DiffTwoIdeal.τ).loc Cert.DiffTwoIdeal.main_arg0)) (m ((c.tc : Thread Cert.DiffTwoIdeal.nD Cert.DiffTwoIdeal.τ).loc Cert.DiffTwoIdeal.main_arg1)) (m ((c.tc : Thread Cert.DiffTwoIdeal.nD Cert.DiffTwoIdeal.τ).loc Cert.DiffTwoIdeal.main_arg2)) (m ((c.tc : Thread Cert.DiffTwoIdeal.nD Cert.DiffTwoIdeal.τ).loc Cert.DiffTwoIdeal.main_arg3)) (m ((c.tc : Thread Cert.DiffTwoIdeal.nD Cert.DiffTwoIdeal.τ).loc Cert.DiffTwoIdeal.main_arg4))).2.1 = (fun _ => 1#1)
    ∧ (Cert.Pre_diff_finite.fn (F := Ideal) (m ((c.tc : Thread Cert.DiffTwoIdeal.nD Cert.DiffTwoIdeal.τ).loc Cert.DiffTwoIdeal.main_arg0)) (m ((c.tc : Thread Cert.DiffTwoIdeal.nD Cert.DiffTwoIdeal.τ).loc Cert.DiffTwoIdeal.main_arg1)) (m ((c.tc : Thread Cert.DiffTwoIdeal.nD Cert.DiffTwoIdeal.τ).loc Cert.DiffTwoIdeal.main_arg2)) (m ((c.tc : Thread Cert.DiffTwoIdeal.nD Cert.DiffTwoIdeal.τ).loc Cert.DiffTwoIdeal.main_arg3)) (m ((c.tc : Thread Cert.DiffTwoIdeal.nD Cert.DiffTwoIdeal.τ).loc Cert.DiffTwoIdeal.main_arg4))).2.2.1 = (fun _ => 1#1)
    ∧ (Cert.Pre_diff_finite.fn (F := Ideal) (m ((c.tc : Thread Cert.DiffTwoIdeal.nD Cert.DiffTwoIdeal.τ).loc Cert.DiffTwoIdeal.main_arg0)) (m ((c.tc : Thread Cert.DiffTwoIdeal.nD Cert.DiffTwoIdeal.τ).loc Cert.DiffTwoIdeal.main_arg1)) (m ((c.tc : Thread Cert.DiffTwoIdeal.nD Cert.DiffTwoIdeal.τ).loc Cert.DiffTwoIdeal.main_arg2)) (m ((c.tc : Thread Cert.DiffTwoIdeal.nD Cert.DiffTwoIdeal.τ).loc Cert.DiffTwoIdeal.main_arg3)) (m ((c.tc : Thread Cert.DiffTwoIdeal.nD Cert.DiffTwoIdeal.τ).loc Cert.DiffTwoIdeal.main_arg4))).2.2.2 = (fun _ => 1#1)

def Pre_DiffTwoRefIdeal (m : (ℓ : Loc Cert.DiffTwoRefIdeal.nD Cert.DiffTwoRefIdeal.τ Cert.DiffTwoRefIdeal.sig) → Buf (Elt Ideal) ℓ) : Prop :=
  True

def Pre_DiffTwoRefIdeal_diff_finite [hPre_diff_finite : Cert.Pre_diff_finite.Facts] (m : (ℓ : Loc Cert.DiffTwoRefIdeal.nD Cert.DiffTwoRefIdeal.τ Cert.DiffTwoRefIdeal.sig) → Buf (Elt Ideal) ℓ) : Prop :=
  ∀ c : Dev Cert.DiffTwoRefIdeal.nD,
    (Cert.Pre_diff_finite.fn (F := Ideal) (m ((c.tc : Thread Cert.DiffTwoRefIdeal.nD Cert.DiffTwoRefIdeal.τ).loc Cert.DiffTwoRefIdeal.main_arg0)) (m ((c.tc : Thread Cert.DiffTwoRefIdeal.nD Cert.DiffTwoRefIdeal.τ).loc Cert.DiffTwoRefIdeal.main_arg1)) (m ((c.tc : Thread Cert.DiffTwoRefIdeal.nD Cert.DiffTwoRefIdeal.τ).loc Cert.DiffTwoRefIdeal.main_arg2)) (m ((c.tc : Thread Cert.DiffTwoRefIdeal.nD Cert.DiffTwoRefIdeal.τ).loc Cert.DiffTwoRefIdeal.main_arg3)) (m ((c.tc : Thread Cert.DiffTwoRefIdeal.nD Cert.DiffTwoRefIdeal.τ).loc Cert.DiffTwoRefIdeal.main_arg4))).1 = (fun _ => 1#1)
    ∧ (Cert.Pre_diff_finite.fn (F := Ideal) (m ((c.tc : Thread Cert.DiffTwoRefIdeal.nD Cert.DiffTwoRefIdeal.τ).loc Cert.DiffTwoRefIdeal.main_arg0)) (m ((c.tc : Thread Cert.DiffTwoRefIdeal.nD Cert.DiffTwoRefIdeal.τ).loc Cert.DiffTwoRefIdeal.main_arg1)) (m ((c.tc : Thread Cert.DiffTwoRefIdeal.nD Cert.DiffTwoRefIdeal.τ).loc Cert.DiffTwoRefIdeal.main_arg2)) (m ((c.tc : Thread Cert.DiffTwoRefIdeal.nD Cert.DiffTwoRefIdeal.τ).loc Cert.DiffTwoRefIdeal.main_arg3)) (m ((c.tc : Thread Cert.DiffTwoRefIdeal.nD Cert.DiffTwoRefIdeal.τ).loc Cert.DiffTwoRefIdeal.main_arg4))).2.1 = (fun _ => 1#1)
    ∧ (Cert.Pre_diff_finite.fn (F := Ideal) (m ((c.tc : Thread Cert.DiffTwoRefIdeal.nD Cert.DiffTwoRefIdeal.τ).loc Cert.DiffTwoRefIdeal.main_arg0)) (m ((c.tc : Thread Cert.DiffTwoRefIdeal.nD Cert.DiffTwoRefIdeal.τ).loc Cert.DiffTwoRefIdeal.main_arg1)) (m ((c.tc : Thread Cert.DiffTwoRefIdeal.nD Cert.DiffTwoRefIdeal.τ).loc Cert.DiffTwoRefIdeal.main_arg2)) (m ((c.tc : Thread Cert.DiffTwoRefIdeal.nD Cert.DiffTwoRefIdeal.τ).loc Cert.DiffTwoRefIdeal.main_arg3)) (m ((c.tc : Thread Cert.DiffTwoRefIdeal.nD Cert.DiffTwoRefIdeal.τ).loc Cert.DiffTwoRefIdeal.main_arg4))).2.2.1 = (fun _ => 1#1)
    ∧ (Cert.Pre_diff_finite.fn (F := Ideal) (m ((c.tc : Thread Cert.DiffTwoRefIdeal.nD Cert.DiffTwoRefIdeal.τ).loc Cert.DiffTwoRefIdeal.main_arg0)) (m ((c.tc : Thread Cert.DiffTwoRefIdeal.nD Cert.DiffTwoRefIdeal.τ).loc Cert.DiffTwoRefIdeal.main_arg1)) (m ((c.tc : Thread Cert.DiffTwoRefIdeal.nD Cert.DiffTwoRefIdeal.τ).loc Cert.DiffTwoRefIdeal.main_arg2)) (m ((c.tc : Thread Cert.DiffTwoRefIdeal.nD Cert.DiffTwoRefIdeal.τ).loc Cert.DiffTwoRefIdeal.main_arg3)) (m ((c.tc : Thread Cert.DiffTwoRefIdeal.nD Cert.DiffTwoRefIdeal.τ).loc Cert.DiffTwoRefIdeal.main_arg4))).2.2.2 = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeIdeal_pre_gates_ok [hMoeIdeal : Cert.MoeIdeal.Facts] [hPre_gates_ok : Cert.Pre_gates_ok.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_ok m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_gates_ok [hMoeRefIdeal : Cert.MoeRefIdeal.Facts] [hPre_gates_ok : Cert.Pre_gates_ok.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gates_ok m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_DiffTwo [hDiffTwo : Cert.DiffTwo.Facts] : Prop :=
  ∀ (m : (ℓ : Loc Cert.DiffTwo.nD Cert.DiffTwo.τ Cert.DiffTwo.sig) → Buf (Elt Bits) ℓ) (g : Dev Cert.DiffTwo.nD → PrngReg), Pre_DiffTwo m →
    θ_run (Cert.DiffTwo.defs (F := Bits)) (onTc (τ := Cert.DiffTwo.τ) (Cert.DiffTwo.main (F := Bits))) ⟨m, fun _ => 0, g⟩ (fun r => (∀ c : Dev Cert.DiffTwo.nD,
      r.2.mem ((c.tc : Thread Cert.DiffTwo.nD Cert.DiffTwo.τ).loc Cert.DiffTwo.main_arg0) = m ((c.tc : Thread Cert.DiffTwo.nD Cert.DiffTwo.τ).loc Cert.DiffTwo.main_arg0)
      ∧ r.2.mem ((c.tc : Thread Cert.DiffTwo.nD Cert.DiffTwo.τ).loc Cert.DiffTwo.main_arg1) = m ((c.tc : Thread Cert.DiffTwo.nD Cert.DiffTwo.τ).loc Cert.DiffTwo.main_arg1)
      ∧ r.2.mem ((c.tc : Thread Cert.DiffTwo.nD Cert.DiffTwo.τ).loc Cert.DiffTwo.main_arg2) = m ((c.tc : Thread Cert.DiffTwo.nD Cert.DiffTwo.τ).loc Cert.DiffTwo.main_arg2)
      ∧ r.2.mem ((c.tc : Thread Cert.DiffTwo.nD Cert.DiffTwo.τ).loc Cert.DiffTwo.main_arg3) = m ((c.tc : Thread Cert.DiffTwo.nD Cert.DiffTwo.τ).loc Cert.DiffTwo.main_arg3)
      ∧ r.2.mem ((c.tc : Thread Cert.DiffTwo.nD Cert.DiffTwo.τ).loc Cert.DiffTwo.main_arg4) = m ((c.tc : Thread Cert.DiffTwo.nD Cert.DiffTwo.τ).loc Cert.DiffTwo.main_arg4))
      ∧ r.2.sem = fun _ => 0)

def quiescent_DiffTwoIdeal [hDiffTwoIdeal : Cert.DiffTwoIdeal.Facts] : Prop :=
  ∀ (m : (ℓ : Loc Cert.DiffTwoIdeal.nD Cert.DiffTwoIdeal.τ Cert.DiffTwoIdeal.sig) → Buf (Elt Ideal) ℓ) (g : Dev Cert.DiffTwoIdeal.nD → PrngReg), Pre_DiffTwoIdeal m →
    θ_run (Cert.DiffTwoIdeal.defs (F := Ideal)) (onTc (τ := Cert.DiffTwoIdeal.τ) (Cert.DiffTwoIdeal.main (F := Ideal))) ⟨m, fun _ => 0, g⟩ (fun r => (∀ c : Dev Cert.DiffTwoIdeal.nD,
      r.2.mem ((c.tc : Thread Cert.DiffTwoIdeal.nD Cert.DiffTwoIdeal.τ).loc Cert.DiffTwoIdeal.main_arg0) = m ((c.tc : Thread Cert.DiffTwoIdeal.nD Cert.DiffTwoIdeal.τ).loc Cert.DiffTwoIdeal.main_arg0)
      ∧ r.2.mem ((c.tc : Thread Cert.DiffTwoIdeal.nD Cert.DiffTwoIdeal.τ).loc Cert.DiffTwoIdeal.main_arg1) = m ((c.tc : Thread Cert.DiffTwoIdeal.nD Cert.DiffTwoIdeal.τ).loc Cert.DiffTwoIdeal.main_arg1)
      ∧ r.2.mem ((c.tc : Thread Cert.DiffTwoIdeal.nD Cert.DiffTwoIdeal.τ).loc Cert.DiffTwoIdeal.main_arg2) = m ((c.tc : Thread Cert.DiffTwoIdeal.nD Cert.DiffTwoIdeal.τ).loc Cert.DiffTwoIdeal.main_arg2)
      ∧ r.2.mem ((c.tc : Thread Cert.DiffTwoIdeal.nD Cert.DiffTwoIdeal.τ).loc Cert.DiffTwoIdeal.main_arg3) = m ((c.tc : Thread Cert.DiffTwoIdeal.nD Cert.DiffTwoIdeal.τ).loc Cert.DiffTwoIdeal.main_arg3)
      ∧ r.2.mem ((c.tc : Thread Cert.DiffTwoIdeal.nD Cert.DiffTwoIdeal.τ).loc Cert.DiffTwoIdeal.main_arg4) = m ((c.tc : Thread Cert.DiffTwoIdeal.nD Cert.DiffTwoIdeal.τ).loc Cert.DiffTwoIdeal.main_arg4))
      ∧ r.2.sem = fun _ => 0)

def quiescent_DiffTwoIdeal_pre_diff_finite [hDiffTwoIdeal : Cert.DiffTwoIdeal.Facts] [hPre_diff_finite : Cert.Pre_diff_finite.Facts] : Prop :=
  ∀ (m : (ℓ : Loc Cert.DiffTwoIdeal.nD Cert.DiffTwoIdeal.τ Cert.DiffTwoIdeal.sig) → Buf (Elt Ideal) ℓ) (g : Dev Cert.DiffTwoIdeal.nD → PrngReg), Pre_DiffTwoIdeal_diff_finite m →
    θ_run (Cert.DiffTwoIdeal.defs (F := Ideal)) (onTc (τ := Cert.DiffTwoIdeal.τ) (Cert.DiffTwoIdeal.main (F := Ideal))) ⟨m, fun _ => 0, g⟩ (fun r => (∀ c : Dev Cert.DiffTwoIdeal.nD,
      r.2.mem ((c.tc : Thread Cert.DiffTwoIdeal.nD Cert.DiffTwoIdeal.τ).loc Cert.DiffTwoIdeal.main_arg0) = m ((c.tc : Thread Cert.DiffTwoIdeal.nD Cert.DiffTwoIdeal.τ).loc Cert.DiffTwoIdeal.main_arg0)
      ∧ r.2.mem ((c.tc : Thread Cert.DiffTwoIdeal.nD Cert.DiffTwoIdeal.τ).loc Cert.DiffTwoIdeal.main_arg1) = m ((c.tc : Thread Cert.DiffTwoIdeal.nD Cert.DiffTwoIdeal.τ).loc Cert.DiffTwoIdeal.main_arg1)
      ∧ r.2.mem ((c.tc : Thread Cert.DiffTwoIdeal.nD Cert.DiffTwoIdeal.τ).loc Cert.DiffTwoIdeal.main_arg2) = m ((c.tc : Thread Cert.DiffTwoIdeal.nD Cert.DiffTwoIdeal.τ).loc Cert.DiffTwoIdeal.main_arg2)
      ∧ r.2.mem ((c.tc : Thread Cert.DiffTwoIdeal.nD Cert.DiffTwoIdeal.τ).loc Cert.DiffTwoIdeal.main_arg3) = m ((c.tc : Thread Cert.DiffTwoIdeal.nD Cert.DiffTwoIdeal.τ).loc Cert.DiffTwoIdeal.main_arg3)
      ∧ r.2.mem ((c.tc : Thread Cert.DiffTwoIdeal.nD Cert.DiffTwoIdeal.τ).loc Cert.DiffTwoIdeal.main_arg4) = m ((c.tc : Thread Cert.DiffTwoIdeal.nD Cert.DiffTwoIdeal.τ).loc Cert.DiffTwoIdeal.main_arg4))
      ∧ r.2.sem = fun _ => 0)

def quiescent_DiffTwoRefIdeal [hDiffTwoRefIdeal : Cert.DiffTwoRefIdeal.Facts] : Prop :=
  ∀ (m : (ℓ : Loc Cert.DiffTwoRefIdeal.nD Cert.DiffTwoRefIdeal.τ Cert.DiffTwoRefIdeal.sig) → Buf (Elt Ideal) ℓ) (g : Dev Cert.DiffTwoRefIdeal.nD → PrngReg), Pre_DiffTwoRefIdeal m →
    θ_run (Cert.DiffTwoRefIdeal.defs (F := Ideal)) (onTc (τ := Cert.DiffTwoRefIdeal.τ) (Cert.DiffTwoRefIdeal.main (F := Ideal))) ⟨m, fun _ => 0, g⟩ (fun r => (∀ c : Dev Cert.DiffTwoRefIdeal.nD,
      r.2.mem ((c.tc : Thread Cert.DiffTwoRefIdeal.nD Cert.DiffTwoRefIdeal.τ).loc Cert.DiffTwoRefIdeal.main_arg0) = m ((c.tc : Thread Cert.DiffTwoRefIdeal.nD Cert.DiffTwoRefIdeal.τ).loc Cert.DiffTwoRefIdeal.main_arg0)
      ∧ r.2.mem ((c.tc : Thread Cert.DiffTwoRefIdeal.nD Cert.DiffTwoRefIdeal.τ).loc Cert.DiffTwoRefIdeal.main_arg1) = m ((c.tc : Thread Cert.DiffTwoRefIdeal.nD Cert.DiffTwoRefIdeal.τ).loc Cert.DiffTwoRefIdeal.main_arg1)
      ∧ r.2.mem ((c.tc : Thread Cert.DiffTwoRefIdeal.nD Cert.DiffTwoRefIdeal.τ).loc Cert.DiffTwoRefIdeal.main_arg2) = m ((c.tc : Thread Cert.DiffTwoRefIdeal.nD Cert.DiffTwoRefIdeal.τ).loc Cert.DiffTwoRefIdeal.main_arg2)
      ∧ r.2.mem ((c.tc : Thread Cert.DiffTwoRefIdeal.nD Cert.DiffTwoRefIdeal.τ).loc Cert.DiffTwoRefIdeal.main_arg3) = m ((c.tc : Thread Cert.DiffTwoRefIdeal.nD Cert.DiffTwoRefIdeal.τ).loc Cert.DiffTwoRefIdeal.main_arg3)
      ∧ r.2.mem ((c.tc : Thread Cert.DiffTwoRefIdeal.nD Cert.DiffTwoRefIdeal.τ).loc Cert.DiffTwoRefIdeal.main_arg4) = m ((c.tc : Thread Cert.DiffTwoRefIdeal.nD Cert.DiffTwoRefIdeal.τ).loc Cert.DiffTwoRefIdeal.main_arg4))
      ∧ r.2.sem = fun _ => 0)

def quiescent_DiffTwoRefIdeal_pre_diff_finite [hDiffTwoRefIdeal : Cert.DiffTwoRefIdeal.Facts] [hPre_diff_finite : Cert.Pre_diff_finite.Facts] : Prop :=
  ∀ (m : (ℓ : Loc Cert.DiffTwoRefIdeal.nD Cert.DiffTwoRefIdeal.τ Cert.DiffTwoRefIdeal.sig) → Buf (Elt Ideal) ℓ) (g : Dev Cert.DiffTwoRefIdeal.nD → PrngReg), Pre_DiffTwoRefIdeal_diff_finite m →
    θ_run (Cert.DiffTwoRefIdeal.defs (F := Ideal)) (onTc (τ := Cert.DiffTwoRefIdeal.τ) (Cert.DiffTwoRefIdeal.main (F := Ideal))) ⟨m, fun _ => 0, g⟩ (fun r => (∀ c : Dev Cert.DiffTwoRefIdeal.nD,
      r.2.mem ((c.tc : Thread Cert.DiffTwoRefIdeal.nD Cert.DiffTwoRefIdeal.τ).loc Cert.DiffTwoRefIdeal.main_arg0) = m ((c.tc : Thread Cert.DiffTwoRefIdeal.nD Cert.DiffTwoRefIdeal.τ).loc Cert.DiffTwoRefIdeal.main_arg0)
      ∧ r.2.mem ((c.tc : Thread Cert.DiffTwoRefIdeal.nD Cert.DiffTwoRefIdeal.τ).loc Cert.DiffTwoRefIdeal.main_arg1) = m ((c.tc : Thread Cert.DiffTwoRefIdeal.nD Cert.DiffTwoRefIdeal.τ).loc Cert.DiffTwoRefIdeal.main_arg1)
      ∧ r.2.mem ((c.tc : Thread Cert.DiffTwoRefIdeal.nD Cert.DiffTwoRefIdeal.τ).loc Cert.DiffTwoRefIdeal.main_arg2) = m ((c.tc : Thread Cert.DiffTwoRefIdeal.nD Cert.DiffTwoRefIdeal.τ).loc Cert.DiffTwoRefIdeal.main_arg2)
      ∧ r.2.mem ((c.tc : Thread Cert.DiffTwoRefIdeal.nD Cert.DiffTwoRefIdeal.τ).loc Cert.DiffTwoRefIdeal.main_arg3) = m ((c.tc : Thread Cert.DiffTwoRefIdeal.nD Cert.DiffTwoRefIdeal.τ).loc Cert.DiffTwoRefIdeal.main_arg3)
      ∧ r.2.mem ((c.tc : Thread Cert.DiffTwoRefIdeal.nD Cert.DiffTwoRefIdeal.τ).loc Cert.DiffTwoRefIdeal.main_arg4) = m ((c.tc : Thread Cert.DiffTwoRefIdeal.nD Cert.DiffTwoRefIdeal.τ).loc Cert.DiffTwoRefIdeal.main_arg4))
      ∧ r.2.sem = fun _ => 0)

def preserves_Diff_DiffIdeal : Prop :=
  True

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v64) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Moe_MoeIdeal : Prop :=
  True

def algebraic_MoeIdeal_MoeRefIdeal_pre_gates_ok [hMoeIdeal : Cert.MoeIdeal.Facts] [hMoeRefIdeal : Cert.MoeRefIdeal.Facts] [hPre_gates_ok : Cert.Pre_gates_ok.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gates_ok m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v1) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v34) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v37_0)) (v1 : (c : Dev Cert.InProjIdeal.nD) → Buf (Elt Ideal) ((c.tc : Thread Cert.InProjIdeal.nD Cert.InProjIdeal.τ).loc Cert.InProjIdeal.main_v37_1)) (v2 : (c : Dev Cert.InProjIdeal.nD) → Buf (Elt Ideal) ((c.tc : Thread Cert.InProjIdeal.nD Cert.InProjIdeal.τ).loc Cert.InProjIdeal.main_v37_2)) (v3 : (c : Dev Cert.InProjIdeal.nD) → Buf (Elt Ideal) ((c.tc : Thread Cert.InProjIdeal.nD Cert.InProjIdeal.τ).loc Cert.InProjIdeal.main_v37_3)) (v4 : (c : Dev Cert.InProjIdeal.nD) → Buf (Elt Ideal) ((c.tc : Thread Cert.InProjIdeal.nD Cert.InProjIdeal.τ).loc Cert.InProjIdeal.main_v37_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v37_0) = v0 c
          ∧ r.2.mem ((c.tc : Thread Cert.InProjIdeal.nD Cert.InProjIdeal.τ).loc Cert.InProjIdeal.main_v37_1) = v1 c
          ∧ r.2.mem ((c.tc : Thread Cert.InProjIdeal.nD Cert.InProjIdeal.τ).loc Cert.InProjIdeal.main_v37_2) = v2 c
          ∧ r.2.mem ((c.tc : Thread Cert.InProjIdeal.nD Cert.InProjIdeal.τ).loc Cert.InProjIdeal.main_v37_3) = v3 c
          ∧ r.2.mem ((c.tc : Thread Cert.InProjIdeal.nD Cert.InProjIdeal.τ).loc Cert.InProjIdeal.main_v37_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v130) = v0 c
          ∧ r.2.mem ((c.tc : Thread Cert.InProjRefIdeal.nD Cert.InProjRefIdeal.τ).loc Cert.InProjRefIdeal.main_v131) = v1 c
          ∧ r.2.mem ((c.tc : Thread Cert.InProjRefIdeal.nD Cert.InProjRefIdeal.τ).loc Cert.InProjRefIdeal.main_v133) = v2 c
          ∧ r.2.mem ((c.tc : Thread Cert.InProjRefIdeal.nD Cert.InProjRefIdeal.τ).loc Cert.InProjRefIdeal.main_v136) = v3 c
          ∧ r.2.mem ((c.tc : Thread Cert.InProjRefIdeal.nD Cert.InProjRefIdeal.τ).loc Cert.InProjRefIdeal.main_v137) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_DiffTwo_DiffTwoIdeal : Prop :=
  True

def algebraic_DiffTwoIdeal_DiffTwoRefIdeal_pre_diff_finite [hDiffTwoIdeal : Cert.DiffTwoIdeal.Facts] [hDiffTwoRefIdeal : Cert.DiffTwoRefIdeal.Facts] [hPre_diff_finite : Cert.Pre_diff_finite.Facts] : Prop :=
  ∀ (m : (ℓ : Loc Cert.DiffTwoIdeal.nD Cert.DiffTwoIdeal.τ Cert.DiffTwoIdeal.sig) → Buf (Elt Ideal) ℓ) (g : Dev Cert.DiffTwoIdeal.nD → PrngReg)
    (m' : (ℓ : Loc Cert.DiffTwoRefIdeal.nD Cert.DiffTwoRefIdeal.τ Cert.DiffTwoRefIdeal.sig) → Buf (Elt Ideal) ℓ) (g' : Dev Cert.DiffTwoRefIdeal.nD → PrngReg), Pre_DiffTwoIdeal_diff_finite m →
    (∀ c : Dev Cert.DiffTwoIdeal.nD,
      m' ((c.tc : Thread Cert.DiffTwoRefIdeal.nD Cert.DiffTwoRefIdeal.τ).loc Cert.DiffTwoRefIdeal.main_arg0) = m ((c.tc : Thread Cert.DiffTwoIdeal.nD Cert.DiffTwoIdeal.τ).loc Cert.DiffTwoIdeal.main_arg0)
      ∧ m' ((c.tc : Thread Cert.DiffTwoRefIdeal.nD Cert.DiffTwoRefIdeal.τ).loc Cert.DiffTwoRefIdeal.main_arg1) = m ((c.tc : Thread Cert.DiffTwoIdeal.nD Cert.DiffTwoIdeal.τ).loc Cert.DiffTwoIdeal.main_arg1)
      ∧ m' ((c.tc : Thread Cert.DiffTwoRefIdeal.nD Cert.DiffTwoRefIdeal.τ).loc Cert.DiffTwoRefIdeal.main_arg2) = m ((c.tc : Thread Cert.DiffTwoIdeal.nD Cert.DiffTwoIdeal.τ).loc Cert.DiffTwoIdeal.main_arg2)
      ∧ m' ((c.tc : Thread Cert.DiffTwoRefIdeal.nD Cert.DiffTwoRefIdeal.τ).loc Cert.DiffTwoRefIdeal.main_arg3) = m ((c.tc : Thread Cert.DiffTwoIdeal.nD Cert.DiffTwoIdeal.τ).loc Cert.DiffTwoIdeal.main_arg3)
      ∧ m' ((c.tc : Thread Cert.DiffTwoRefIdeal.nD Cert.DiffTwoRefIdeal.τ).loc Cert.DiffTwoRefIdeal.main_arg4) = m ((c.tc : Thread Cert.DiffTwoIdeal.nD Cert.DiffTwoIdeal.τ).loc Cert.DiffTwoIdeal.main_arg4)) →
    ∃ (v0 : (c : Dev Cert.DiffTwoIdeal.nD) → Buf (Elt Ideal) ((c.tc : Thread Cert.DiffTwoIdeal.nD Cert.DiffTwoIdeal.τ).loc Cert.DiffTwoIdeal.main_v0)),
      θ_run (Cert.DiffTwoIdeal.defs (F := Ideal)) (onTc (τ := Cert.DiffTwoIdeal.τ) (Cert.DiffTwoIdeal.main (F := Ideal))) ⟨m, fun _ => 0, g⟩ (fun r => ∀ c : Dev Cert.DiffTwoIdeal.nD,
          r.2.mem ((c.tc : Thread Cert.DiffTwoIdeal.nD Cert.DiffTwoIdeal.τ).loc Cert.DiffTwoIdeal.main_v0) = v0 c
          ∧ r.2.mem ((c.tc : Thread Cert.DiffTwoIdeal.nD Cert.DiffTwoIdeal.τ).loc Cert.DiffTwoIdeal.main_arg0) = m ((c.tc : Thread Cert.DiffTwoIdeal.nD Cert.DiffTwoIdeal.τ).loc Cert.DiffTwoIdeal.main_arg0)
          ∧ r.2.mem ((c.tc : Thread Cert.DiffTwoIdeal.nD Cert.DiffTwoIdeal.τ).loc Cert.DiffTwoIdeal.main_arg1) = m ((c.tc : Thread Cert.DiffTwoIdeal.nD Cert.DiffTwoIdeal.τ).loc Cert.DiffTwoIdeal.main_arg1)
          ∧ r.2.mem ((c.tc : Thread Cert.DiffTwoIdeal.nD Cert.DiffTwoIdeal.τ).loc Cert.DiffTwoIdeal.main_arg2) = m ((c.tc : Thread Cert.DiffTwoIdeal.nD Cert.DiffTwoIdeal.τ).loc Cert.DiffTwoIdeal.main_arg2)
          ∧ r.2.mem ((c.tc : Thread Cert.DiffTwoIdeal.nD Cert.DiffTwoIdeal.τ).loc Cert.DiffTwoIdeal.main_arg3) = m ((c.tc : Thread Cert.DiffTwoIdeal.nD Cert.DiffTwoIdeal.τ).loc Cert.DiffTwoIdeal.main_arg3)
          ∧ r.2.mem ((c.tc : Thread Cert.DiffTwoIdeal.nD Cert.DiffTwoIdeal.τ).loc Cert.DiffTwoIdeal.main_arg4) = m ((c.tc : Thread Cert.DiffTwoIdeal.nD Cert.DiffTwoIdeal.τ).loc Cert.DiffTwoIdeal.main_arg4))
      ∧ θ_run (Cert.DiffTwoRefIdeal.defs (F := Ideal)) (onTc (τ := Cert.DiffTwoRefIdeal.τ) (Cert.DiffTwoRefIdeal.main (F := Ideal))) ⟨m', fun _ => 0, g'⟩ (fun r => ∀ c : Dev Cert.DiffTwoRefIdeal.nD,
          r.2.mem ((c.tc : Thread Cert.DiffTwoRefIdeal.nD Cert.DiffTwoRefIdeal.τ).loc Cert.DiffTwoRefIdeal.main_v64) = v0 c
          ∧ r.2.mem ((c.tc : Thread Cert.DiffTwoRefIdeal.nD Cert.DiffTwoRefIdeal.τ).loc Cert.DiffTwoRefIdeal.main_arg0) = m' ((c.tc : Thread Cert.DiffTwoRefIdeal.nD Cert.DiffTwoRefIdeal.τ).loc Cert.DiffTwoRefIdeal.main_arg0)
          ∧ r.2.mem ((c.tc : Thread Cert.DiffTwoRefIdeal.nD Cert.DiffTwoRefIdeal.τ).loc Cert.DiffTwoRefIdeal.main_arg1) = m' ((c.tc : Thread Cert.DiffTwoRefIdeal.nD Cert.DiffTwoRefIdeal.τ).loc Cert.DiffTwoRefIdeal.main_arg1)
          ∧ r.2.mem ((c.tc : Thread Cert.DiffTwoRefIdeal.nD Cert.DiffTwoRefIdeal.τ).loc Cert.DiffTwoRefIdeal.main_arg2) = m' ((c.tc : Thread Cert.DiffTwoRefIdeal.nD Cert.DiffTwoRefIdeal.τ).loc Cert.DiffTwoRefIdeal.main_arg2)
          ∧ r.2.mem ((c.tc : Thread Cert.DiffTwoRefIdeal.nD Cert.DiffTwoRefIdeal.τ).loc Cert.DiffTwoRefIdeal.main_arg3) = m' ((c.tc : Thread Cert.DiffTwoRefIdeal.nD Cert.DiffTwoRefIdeal.τ).loc Cert.DiffTwoRefIdeal.main_arg3)
          ∧ r.2.mem ((c.tc : Thread Cert.DiffTwoRefIdeal.nD Cert.DiffTwoRefIdeal.τ).loc Cert.DiffTwoRefIdeal.main_arg4) = m' ((c.tc : Thread Cert.DiffTwoRefIdeal.nD Cert.DiffTwoRefIdeal.τ).loc Cert.DiffTwoRefIdeal.main_arg4))

def Claim : Prop :=
  ∃ (hDiff : Cert.Diff.Facts) (hDiffIdeal : Cert.DiffIdeal.Facts) (hDiffRefIdeal : Cert.DiffRefIdeal.Facts) (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hDiffTwo : Cert.DiffTwo.Facts) (hDiffTwoIdeal : Cert.DiffTwoIdeal.Facts) (hDiffTwoRefIdeal : Cert.DiffTwoRefIdeal.Facts) (hPre_diff_finite : Cert.Pre_diff_finite.Facts) (hPre_gates_ok : Cert.Pre_gates_ok.Facts),
    quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Moe (hMoe := hMoe)
    ∧ quiescent_MoeIdeal (hMoeIdeal := hMoeIdeal)
    ∧ quiescent_MoeIdeal_pre_gates_ok (hMoeIdeal := hMoeIdeal) (hPre_gates_ok := hPre_gates_ok)
    ∧ quiescent_MoeRefIdeal (hMoeRefIdeal := hMoeRefIdeal)
    ∧ quiescent_MoeRefIdeal_pre_gates_ok (hMoeRefIdeal := hMoeRefIdeal) (hPre_gates_ok := hPre_gates_ok)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_DiffTwo (hDiffTwo := hDiffTwo)
    ∧ quiescent_DiffTwoIdeal (hDiffTwoIdeal := hDiffTwoIdeal)
    ∧ quiescent_DiffTwoIdeal_pre_diff_finite (hDiffTwoIdeal := hDiffTwoIdeal) (hPre_diff_finite := hPre_diff_finite)
    ∧ quiescent_DiffTwoRefIdeal (hDiffTwoRefIdeal := hDiffTwoRefIdeal)
    ∧ quiescent_DiffTwoRefIdeal_pre_diff_finite (hDiffTwoRefIdeal := hDiffTwoRefIdeal) (hPre_diff_finite := hPre_diff_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Moe_MoeIdeal
    ∧ algebraic_MoeIdeal_MoeRefIdeal_pre_gates_ok (hMoeIdeal := hMoeIdeal) (hMoeRefIdeal := hMoeRefIdeal) (hPre_gates_ok := hPre_gates_ok)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_DiffTwo_DiffTwoIdeal
    ∧ algebraic_DiffTwoIdeal_DiffTwoRefIdeal_pre_diff_finite (hDiffTwoIdeal := hDiffTwoIdeal) (hDiffTwoRefIdeal := hDiffTwoRefIdeal) (hPre_diff_finite := hPre_diff_finite)
-- ==== Pre_diff_finite.lean ====
abbrev S2x8448x768 : Shape := ⟨3, ![2, 8448, 768]⟩
abbrev S4x64 : Shape := ⟨2, ![4, 64]⟩
abbrev S1x128 : Shape := ⟨2, ![1, 128]⟩
abbrev S2x8192x512 : Shape := ⟨3, ![2, 8192, 512]⟩
abbrev S_ : Shape := ⟨0, ![]⟩
abbrev S2x8448x512 : Shape := ⟨3, ![2, 8448, 512]⟩

class Facts : Prop where
  slices_S2x8448x768_S2x8192x512_0_0_256 : S2x8448x768.Slices ![0, 0, 256] S2x8192x512
  bcast_S_S2x8192x512 : S_.BroadcastsInDim S2x8192x512 (![] : Fin 0 → Fin S2x8192x512.rank)
  slices_S2x8448x768_S2x8448x512_0_0_256 : S2x8448x768.Slices ![0, 0, 256] S2x8448x512
  bcast_S_S2x8448x512 : S_.BroadcastsInDim S2x8448x512 (![] : Fin 0 → Fin S2x8448x512.rank)
  bcast_S_S4x64 : S_.BroadcastsInDim S4x64 (![] : Fin 0 → Fin S4x64.rank)

variable [Facts]

def fn_part1 {F : FTy → Type} [FloatOps F] (main_arg3 : FVec F S4x64 .f32) (main_v5 : IVec S2x8192x512 1) (main_v11 : IVec S2x8448x512 1) (main_v17 : IVec S2x8448x512 1) : IVec S2x8192x512 1 × IVec S2x8448x512 1 × IVec S2x8448x512 1 × IVec S4x64 1 :=
  let main_cst_5 : FVec F S_ .f32 := constant S_ .f32 0xFF800000#32
  let main_v18 : FVec F S4x64 .f32 := broadcastInDim S4x64 ![] bcast_S_S4x64 main_cst_5
  let main_v19 : IVec S4x64 1 := cmpf .ogt main_arg3 main_v18
  let main_cst_6 : FVec F S_ .f32 := constant S_ .f32 0x7F800000#32
  let main_v20 : FVec F S4x64 .f32 := broadcastInDim S4x64 ![] bcast_S_S4x64 main_cst_6
  let main_v21 : IVec S4x64 1 := cmpf .olt main_arg3 main_v20
  let main_v22 : IVec S4x64 1 := andi main_v19 main_v21
  (main_v5, main_v11, main_v17, main_v22)

def fn {F : FTy → Type} [FloatOps F] (main_arg0 : FVec F S2x8448x768 .bf16) (main_arg1 : FVec F S2x8448x768 .bf16) (main_arg2 : FVec F S2x8448x768 .bf16) (main_arg3 : FVec F S4x64 .f32) (main_arg4 : FVec F S1x128 .f32) : IVec S2x8192x512 1 × IVec S2x8448x512 1 × IVec S2x8448x512 1 × IVec S4x64 1 :=
  let main_v0 : FVec F S2x8192x512 .bf16 := (extractStridedSlice S2x8192x512 ![0, 0, 256] · slices_S2x8448x768_S2x8192x512_0_0_256) main_arg0
  let main_cst : FVec F S_ .bf16 := constant S_ .bf16 0xFF80#16
  let main_v1 : FVec F S2x8192x512 .bf16 := broadcastInDim S2x8192x512 ![] bcast_S_S2x8192x512 main_cst
  let main_v2 : IVec S2x8192x512 1 := cmpf .ogt main_v0 main_v1
  let main_cst_0 : FVec F S_ .bf16 := constant S_ .bf16 0x7F80#16
  let main_v3 : FVec F S2x8192x512 .bf16 := broadcastInDim S2x8192x512 ![] bcast_S_S2x8192x512 main_cst_0
  let main_v4 : IVec S2x8192x512 1 := cmpf .olt main_v0 main_v3
  let main_v5 : IVec S2x8192x512 1 := andi main_v2 main_v4
  let main_v6 : FVec F S2x8448x512 .bf16 := (extractStridedSlice S2x8448x512 ![0, 0, 256] · slices_S2x8448x768_S2x8448x512_0_0_256) main_arg1
  let main_cst_1 : FVec F S_ .bf16 := constant S_ .bf16 0xFF80#16
  let main_v7 : FVec F S2x8448x512 .bf16 := broadcastInDim S2x8448x512 ![] bcast_S_S2x8448x512 main_cst_1
  let main_v8 : IVec S2x8448x512 1 := cmpf .ogt main_v6 main_v7
  let main_cst_2 : FVec F S_ .bf16 := constant S_ .bf16 0x7F80#16
  let main_v9 : FVec F S2x8448x512 .bf16 := broadcastInDim S2x8448x512 ![] bcast_S_S2x8448x512 main_cst_2
  let main_v10 : IVec S2x8448x512 1 := cmpf .olt main_v6 main_v9
  let main_v11 : IVec S2x8448x512 1 := andi main_v8 main_v10
  let main_v12 : FVec F S2x8448x512 .bf16 := (extractStridedSlice S2x8448x512 ![0, 0, 256] · slices_S2x8448x768_S2x8448x512_0_0_256) main_arg2
  let main_cst_3 : FVec F S_ .bf16 := constant S_ .bf16 0xFF80#16
  let main_v13 : FVec F S2x8448x512 .bf16 := broadcastInDim S2x8448x512 ![] bcast_S_S2x8448x512 main_cst_3
  let main_v14 : IVec S2x8448x512 1 := cmpf .ogt main_v12 main_v13
  let main_cst_4 : FVec F S_ .bf16 := constant S_ .bf16 0x7F80#16
  let main_v15 : FVec F S2x8448x512 .bf16 := broadcastInDim S2x8448x512 ![] bcast_S_S2x8448x512 main_cst_4
  let main_v16 : IVec S2x8448x512 1 := cmpf .olt main_v12 main_v15
  let main_v17 : IVec S2x8448x512 1 := andi main_v14 main_v16
  fn_part1 (F := F) main_arg3 main_v5 main_v11 main_v17
-- ==== Pre_gates_ok.lean ====
abbrev S2x8192x1024 : Shape := ⟨3, ![2, 8192, 1024]⟩
abbrev S2x8192x128 : Shape := ⟨3, ![2, 8192, 128]⟩
abbrev S8x1024x3584 : Shape := ⟨3, ![8, 1024, 3584]⟩
abbrev S8x3584x1024 : Shape := ⟨3, ![8, 3584, 1024]⟩
abbrev S4x6x1024 : Shape := ⟨3, ![4, 6, 1024]⟩
abbrev S1024 : Shape := ⟨1, ![1024]⟩
abbrev S2x8192x8 : Shape := ⟨3, ![2, 8192, 8]⟩
abbrev S_ : Shape := ⟨0, ![]⟩

class Facts : Prop where
  slices_S2x8192x128_S2x8192x8_0_0_0 : S2x8192x128.Slices ![0, 0, 0] S2x8192x8
  bcast_S_S2x8192x8 : S_.BroadcastsInDim S2x8192x8 (![] : Fin 0 → Fin S2x8192x8.rank)

variable [Facts]

def fn {F : FTy → Type} [FloatOps F] (main_arg0 : FVec F S2x8192x1024 .f32) (main_arg1 : FVec F S2x8192x1024 .bf16) (main_arg2 : FVec F S2x8192x128 .f32) (main_arg3 : FVec F S8x1024x3584 .bf16) (main_arg4 : FVec F S8x1024x3584 .bf16) (main_arg5 : FVec F S8x3584x1024 .bf16) (main_arg6 : FVec F S4x6x1024 .f32) (main_arg7 : FVec F S1024 .f32) : IVec S2x8192x8 1 :=
  let main_v0 : FVec F S2x8192x8 .f32 := (extractStridedSlice S2x8192x8 ![0, 0, 0] · slices_S2x8192x128_S2x8192x8_0_0_0) main_arg2
  let main_cst : FVec F S_ .f32 := constant S_ .f32 0x00000000#32
  let main_v1 : FVec F S2x8192x8 .f32 := broadcastInDim S2x8192x8 ![] bcast_S_S2x8192x8 main_cst
  let main_v2 : IVec S2x8192x8 1 := cmpf .oge main_v0 main_v1
  let main_cst_0 : FVec F S_ .f32 := constant S_ .f32 0x7F800000#32
  let main_v3 : FVec F S2x8192x8 .f32 := broadcastInDim S2x8192x8 ![] bcast_S_S2x8192x8 main_cst_0
  let main_v4 : IVec S2x8192x8 1 := cmpf .olt main_v0 main_v3
  let main_v5 : IVec S2x8192x8 1 := andi main_v2 main_v4
  main_v5
-- ==== Diff.lean ====
abbrev S2x8448x768 : Shape := ⟨3, ![2, 8448, 768]⟩
abbrev S4x64 : Shape := ⟨2, ![4, 64]⟩
abbrev S1x128 : Shape := ⟨2, ![1, 128]⟩
abbrev S2x8192x512 : Shape := ⟨3, ![2, 8192, 512]⟩
abbrev S1x512x128 : Shape := ⟨3, ![1, 512, 128]⟩
abbrev S1x768x128 : Shape := ⟨3, ![1, 768, 128]⟩
abbrev S2x512x1 : Shape := ⟨3, ![2, 512, 1]⟩
abbrev S2x512x128 : Shape := ⟨3, ![2, 512, 128]⟩
abbrev S512x128 : Shape := ⟨2, ![512, 128]⟩
abbrev S768x128 : Shape := ⟨2, ![768, 128]⟩
abbrev S512x768 : Shape := ⟨2, ![512, 768]⟩
abbrev S1x512x1 : Shape := ⟨3, ![1, 512, 1]⟩
abbrev S512x1 : Shape := ⟨2, ![512, 1]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S2x8448x768, .bf16⟩
  | .hbm, ⟨1, _⟩ => ⟨S2x8448x768, .bf16⟩
  | .hbm, ⟨2, _⟩ => ⟨S2x8448x768, .bf16⟩
  | .hbm, ⟨3, _⟩ => ⟨S4x64, .f32⟩
  | .hbm, ⟨4, _⟩ => ⟨S1x128, .f32⟩
  | .hbm, ⟨5, _⟩ => ⟨S2x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x768x128, .bf16⟩
  | .local _ .vmem, ⟨3, _⟩ => ⟨S1x768x128, .bf16⟩
  | .local _ .vmem, ⟨4, _⟩ => ⟨S1x768x128, .bf16⟩
  | .local _ .vmem, ⟨5, _⟩ => ⟨S1x768x128, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S2x8448x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 4, 16, 11], ![false, false, false, false]⟩

def k0_cond2 (i : grid0.Coords) : BitVec 1 :=
  let arg3 : BitVec 32 := BitVec.ofNat 32 (i 3).val
  let c10_i32 : BitVec 32 := 10#32
  let v94 : BitVec 1 := Scalar.cmpi .eq arg3 c10_i32
  let v95 : BitVec 32 := Scalar.extui v94
  let c0_i32_55 : BitVec 32 := 0#32
  let v96 : BitVec 1 := Scalar.cmpi .ne v95 c0_i32_55
  v96

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c2_i32 : BitVec 32 := 2#32
  let v1 : BitVec 32 := Scalar.addi c2_i32 arg1
  let c0_i32_0 : BitVec 32 := 0#32
  ![arg0.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c2_i32 : BitVec 32 := 2#32
  let v1 : BitVec 32 := Scalar.addi c2_i32 arg1
  let c0_i32_0 : BitVec 32 := 0#32
  ![arg0.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c2_i32 : BitVec 32 := 2#32
  let v1 : BitVec 32 := Scalar.addi c2_i32 arg1
  let c0_i32_0 : BitVec 32 := 0#32
  ![arg0.toNat, v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== DiffRefIdeal.lean ====
abbrev S2x8448x768 : Shape := ⟨3, ![2, 8448, 768]⟩
abbrev S4x64 : Shape := ⟨2, ![4, 64]⟩
abbrev S1x128 : Shape := ⟨2, ![1, 128]⟩
abbrev S2x8192x512 : Shape := ⟨3, ![2, 8192, 512]⟩
abbrev S2x8192x8x64 : Shape := ⟨4, ![2, 8192, 8, 64]⟩
abbrev S2x8448x512 : Shape := ⟨3, ![2, 8448, 512]⟩
abbrev S2x8448x8x64 : Shape := ⟨4, ![2, 8448, 8, 64]⟩
abbrev S2x8448x4x128 : Shape := ⟨4, ![2, 8448, 4, 128]⟩
abbrev S1x64 : Shape := ⟨2, ![1, 64]⟩
abbrev S64 : Shape := ⟨1, ![64]⟩
abbrev S_ : Shape := ⟨0, ![]⟩
abbrev S2x8x8192x8448 : Shape := ⟨4, ![2, 8, 8192, 8448]⟩
abbrev S2x8x8192 : Shape := ⟨3, ![2, 8, 8192]⟩
abbrev S2x8x8192x1 : Shape := ⟨4, ![2, 8, 8192, 1]⟩
abbrev S2x4x2x8192x8448 : Shape := ⟨5, ![2, 4, 2, 8192, 8448]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x8448x768, .bf16⟩
  | .hbm, ⟨1, _⟩ => ⟨S2x8448x768, .bf16⟩
  | .hbm, ⟨2, _⟩ => ⟨S2x8448x768, .bf16⟩
  | .hbm, ⟨3, _⟩ => ⟨S4x64, .f32⟩
  | .hbm, ⟨4, _⟩ => ⟨S1x128, .f32⟩
  | .hbm, ⟨5, _⟩ => ⟨S2x8192x512, .bf16⟩
  | .hbm, ⟨6, _⟩ => ⟨S2x8192x512, .f32⟩
  | .hbm, ⟨7, _⟩ => ⟨S2x8192x8x64, .f32⟩
  | .hbm, ⟨8, _⟩ => ⟨S2x8448x512, .bf16⟩
  | .hbm, ⟨9, _⟩ => ⟨S2x8448x512, .f32⟩
  | .hbm, ⟨10, _⟩ => ⟨S2x8448x8x64, .f32⟩
  | .hbm, ⟨11, _⟩ => ⟨S2x8448x512, .bf16⟩
  | .hbm, ⟨12, _⟩ => ⟨S2x8448x512, .f32⟩
  | .hbm, ⟨13, _⟩ => ⟨S2x8448x4x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x8x8192x8448, .f32⟩
  | .hbm, ⟨34, _⟩ => ⟨S_, .f32⟩
  | .hbm, ⟨35, _⟩ => ⟨S2x8x8192, .f32⟩
  | .hbm, ⟨36, _⟩ => ⟨S_, .f32⟩
  | .hbm, ⟨37, _⟩ => ⟨S2x8x8192, .f32⟩
  | .hbm, ⟨38, _⟩ => ⟨S2x8x8192, .f32⟩
  | .hbm, ⟨39, _⟩ => ⟨S2x8x8192x1, .f32⟩
  | .hbm, ⟨40, _⟩ => ⟨S2x8x8192x8448, .f32⟩
  | .hbm, ⟨41, _⟩ => ⟨S2x8x8192x8448, .f32⟩
  | .hbm, ⟨42, _⟩ => ⟨S2x8x8192x8448, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S2x8x8192x8448, .f32⟩
  | .hbm, ⟨47, _⟩ => ⟨S2x8x8192x8448, .f32⟩
  | .hbm, ⟨48, _⟩ => ⟨S2x4x2x8192x8448, .f32⟩
  | .hbm, ⟨49, _⟩ => ⟨S2x4x1x8192x8448, .f32⟩
  | .hbm, ⟨50, _⟩ => ⟨S2x4x8192x8448, .f32⟩
  | .hbm, ⟨51, _⟩ => ⟨S2x4x1x8192x8448, .f32⟩
  | .hbm, ⟨52, _⟩ => ⟨S2x4x8192x8448, .f32⟩
  | .hbm, ⟨53, _⟩ => ⟨S2x4x8192x8448, .f32⟩
  | .hbm, ⟨54, _⟩ => ⟨S2x4x8192x8448, .f32⟩
  | .hbm, ⟨55, _⟩ => ⟨S2x4x8192x8448, .f32⟩
  | .hbm, ⟨56, _⟩ => ⟨S2x4x128x8192, .f32⟩
  | .hbm, ⟨57, _⟩ => ⟨S2x8192x4x128, .f32⟩
  | .hbm, ⟨58, _⟩ => ⟨S128, .f32⟩
  | .hbm, ⟨59, _⟩ => ⟨S2x8192x4x128, .f32⟩
  | .hbm, ⟨60, _⟩ => ⟨S_, .f32⟩
  | .hbm, ⟨61, _⟩ => ⟨S2x8192x4, .f32⟩
  | .hbm, ⟨62, _⟩ => ⟨S2x8192x4x1, .f32⟩
  | .hbm, ⟨63, _⟩ => ⟨S_, .f32⟩
  | .hbm, ⟨64, _⟩ => ⟨S2x8192x4x1, .f32⟩
  | .hbm, ⟨65, _⟩ => ⟨S2x8192x4x1, .f32⟩
  | .hbm, ⟨66, _⟩ => ⟨S_, .f32⟩
  | .hbm, ⟨67, _⟩ => ⟨S2x8192x4x1, .f32⟩
  | .hbm, ⟨68, _⟩ => ⟨S2x8192x4x1, .f32⟩
  | .hbm, ⟨69, _⟩ => ⟨S2x8192x4x1, .f32⟩
  | .hbm, ⟨70, _⟩ => ⟨S2x8192x4x128, .f32⟩
  | .hbm, ⟨71, _⟩ => ⟨S2x8192x4x128, .f32⟩
  | .hbm, ⟨72, _⟩ => ⟨S1x1x1x128, .f32⟩
  | .hbm, ⟨73, _⟩ => ⟨S2x8192x4x128, .f32⟩
  | .hbm, ⟨74, _⟩ => ⟨S2x8192x4x128, .f32⟩
  | .hbm, ⟨75, _⟩ => ⟨S_, .f32⟩
  | .hbm, ⟨76, _⟩ => ⟨S2x8192x4x128, .f32⟩
  | .hbm, ⟨77, _⟩ => ⟨S2x8192x4x128, .f32⟩
  | .hbm, ⟨78, _⟩ => ⟨S2x8192x512, .f32⟩
  | .hbm, ⟨79, _⟩ => ⟨S2x8192x512, .bf16⟩
  | _, _ => ⟨S2x8448x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Moe.lean ====
abbrev S2x8192x1024 : Shape := ⟨3, ![2, 8192, 1024]⟩
abbrev S2x8192x128 : Shape := ⟨3, ![2, 8192, 128]⟩
abbrev S8x1024x3584 : Shape := ⟨3, ![8, 1024, 3584]⟩
abbrev S8x3584x1024 : Shape := ⟨3, ![8, 3584, 1024]⟩
abbrev S4x6x1024 : Shape := ⟨3, ![4, 6, 1024]⟩
abbrev S1024 : Shape := ⟨1, ![1024]⟩
abbrev S1x1024 : Shape := ⟨2, ![1, 1024]⟩
abbrev S1x512x1024 : Shape := ⟨3, ![1, 512, 1024]⟩
abbrev S1x512x128 : Shape := ⟨3, ![1, 512, 128]⟩
abbrev S1x1024x1792 : Shape := ⟨3, ![1, 1024, 1792]⟩
abbrev S1x1792x1024 : Shape := ⟨3, ![1, 1792, 1024]⟩
abbrev S1x6x1024 : Shape := ⟨3, ![1, 6, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩
abbrev S1x1x1024 : Shape := ⟨3, ![1, 1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x128, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S4x6x1024, .f32⟩
  | .hbm, ⟨7, _⟩ => ⟨S1024, .f32⟩
  | .hbm, ⟨8, _⟩ => ⟨S1x1024, .f32⟩
  | .hbm, ⟨9, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1024x1792, .bf16⟩
  | .local _ .vmem, ⟨10, _⟩ => ⟨S1x1792x1024, .bf16⟩
  | .local _ .vmem, ⟨11, _⟩ => ⟨S1x1792x1024, .bf16⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨4, ![2, 16, 8, 2], ![false, false, false, false]⟩

def k0_cond2 (i : grid0.Coords) : BitVec 1 :=
  let arg2 : BitVec 32 := BitVec.ofNat 32 (i 2).val
  let c7_i32 : BitVec 32 := 7#32
  let v36 : BitVec 1 := Scalar.cmpi .eq arg2 c7_i32
  let arg3 : BitVec 32 := BitVec.ofNat 32 (i 3).val
  let c1_i32 : BitVec 32 := 1#32
  let v37 : BitVec 1 := Scalar.cmpi .eq arg3 c1_i32
  let v38 : BitVec 1 := Scalar.andi v36 v37
  let v39 : BitVec 32 := Scalar.extui v38
  let c0_i32_24 : BitVec 32 := 0#32
  let v40 : BitVec 1 := Scalar.cmpi .ne v39 c0_i32_24
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== MoeRefIdeal.lean ====
abbrev S2x8192x1024 : Shape := ⟨3, ![2, 8192, 1024]⟩
abbrev S2x8192x128 : Shape := ⟨3, ![2, 8192, 128]⟩
abbrev S8x1024x3584 : Shape := ⟨3, ![8, 1024, 3584]⟩
abbrev S8x3584x1024 : Shape := ⟨3, ![8, 3584, 1024]⟩
abbrev S4x6x1024 : Shape := ⟨3, ![4, 6, 1024]⟩
abbrev S1024 : Shape := ⟨1, ![1024]⟩
abbrev S2x8192x8x3584 : Shape := ⟨4, ![2, 8192, 8, 3584]⟩
abbrev S_ : Shape := ⟨0, ![]⟩
abbrev S8x2x8192x1024 : Shape := ⟨4, ![8, 2, 8192, 1024]⟩
abbrev S2x8192x8 : Shape := ⟨3, ![2, 8192, 8]⟩
abbrev S8x2x8192 : Shape := ⟨3, ![8, 2, 8192]⟩
abbrev S8x2x8192x1 : Shape := ⟨4, ![8, 2, 8192, 1]⟩
abbrev S2x2x6x1024 : Shape := ⟨4, ![2, 2, 6, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x128, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S4x6x1024, .f32⟩
  | .hbm, ⟨7, _⟩ => ⟨S1024, .f32⟩
  | .hbm, ⟨8, _⟩ => ⟨S2x8192x1024, .f32⟩
  | .hbm, ⟨9, _⟩ => ⟨S8x1024x3584, .f32⟩
  | .hbm, ⟨10, _⟩ => ⟨S8x1024x3584, .f32⟩
  | .hbm, ⟨11, _⟩ => ⟨S8x3584x1024, .f32⟩
  | .hbm, ⟨12, _⟩ => ⟨S2x8192x8x3584, .f32⟩
  | .hbm, ⟨13, _⟩ => ⟨S2x8192x8x3584, .f32⟩
  | .hbm, ⟨14, _⟩ => ⟨S2x8192x8x3584, .f32⟩
  | .hbm, ⟨15, _⟩ => ⟨S_, .f32⟩
  | .hbm, ⟨16, _⟩ => ⟨S2x8192x8x3584, .f32⟩
  | .hbm, ⟨17, _⟩ => ⟨S2x8192x8x3584, .f32⟩
  | .hbm, ⟨18, _⟩ => ⟨S_, .f32⟩
  | .hbm, ⟨19, _⟩ => ⟨S2x8192x8x3584, .f32⟩
  | .hbm, ⟨20, _⟩ => ⟨S2x8192x8x3584, .f32⟩
  | .hbm, ⟨21, _⟩ => ⟨S2x8192x8x3584, .f32⟩
  | .hbm, ⟨22, _⟩ => ⟨S2x8192x8x3584, .f32⟩
  | .hbm, ⟨23, _⟩ => ⟨S2x8192x8x3584, .f32⟩
  | .hbm, ⟨24, _⟩ => ⟨S8x2x8192x1024, .f32⟩
  | .hbm, ⟨25, _⟩ => ⟨S2x8192x8, .f32⟩
  | .hbm, ⟨26, _⟩ => ⟨S8x2x8192, .f32⟩
  | .hbm, ⟨27, _⟩ => ⟨S8x2x8192x1, .f32⟩
  | .hbm, ⟨28, _⟩ => ⟨S8x2x8192x1024, .f32⟩
  | .hbm, ⟨29, _⟩ => ⟨S8x2x8192x1024, .f32⟩
  | .hbm, ⟨30, _⟩ => ⟨S_, .f32⟩
  | .hbm, ⟨31, _⟩ => ⟨S2x8192x1024, .f32⟩
  | .hbm, ⟨32, _⟩ => ⟨S2x2x6x1024, .f32⟩
  | .hbm, ⟨33, _⟩ => ⟨S2x1x1x1024, .f32⟩
  | .hbm, ⟨34, _⟩ => ⟨S2x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Ffn.lean ====
abbrev S2x8448x1024 : Shape := ⟨3, ![2, 8448, 1024]⟩
abbrev S1024x2816 : Shape := ⟨2, ![1024, 2816]⟩
abbrev S2816x1024 : Shape := ⟨2, ![2816, 1024]⟩
abbrev S4x6x1024 : Shape := ⟨3, ![4, 6, 1024]⟩
abbrev S1x256x1024 : Shape := ⟨3, ![1, 256, 1024]⟩
abbrev S1x6x1024 : Shape := ⟨3, ![1, 6, 1024]⟩
abbrev S256x1024 : Shape := ⟨2, ![256, 1024]⟩
abbrev S256x2816 : Shape := ⟨2, ![256, 2816]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x6x1024, .f32⟩
  | .hbm, ⟨6, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x6x1024, .f32⟩
  | .local _ .vmem, ⟨8, _⟩ => ⟨S1x6x1024, .f32⟩
  | .local _ .vmem, ⟨9, _⟩ => ⟨S1x256x1024, .f32⟩
  | .local _ .vmem, ⟨10, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 1 := Scalar.cmpi .sge arg1 c32_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S2x8448x1024 : Shape := ⟨3, ![2, 8448, 1024]⟩
abbrev S1024x2816 : Shape := ⟨2, ![1024, 2816]⟩
abbrev S2816x1024 : Shape := ⟨2, ![2816, 1024]⟩
abbrev S4x6x1024 : Shape := ⟨3, ![4, 6, 1024]⟩
abbrev S2x8448x2816 : Shape := ⟨3, ![2, 8448, 2816]⟩
abbrev S_ : Shape := ⟨0, ![]⟩
abbrev S2x2x6x1024 : Shape := ⟨4, ![2, 2, 6, 1024]⟩
abbrev S2x2x1x1024 : Shape := ⟨4, ![2, 2, 1, 1024]⟩
abbrev S2x2x1024 : Shape := ⟨3, ![2, 2, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S2x256x1024 : Shape := ⟨3, ![2, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x6x1024, .f32⟩
  | .hbm, ⟨6, _⟩ => ⟨S2x8448x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x8448x2816, .f32⟩
  | .hbm, ⟨11, _⟩ => ⟨S2x8448x2816, .f32⟩
  | .hbm, ⟨12, _⟩ => ⟨S2x8448x2816, .f32⟩
  | .hbm, ⟨13, _⟩ => ⟨S_, .f32⟩
  | .hbm, ⟨14, _⟩ => ⟨S2x8448x2816, .f32⟩
  | .hbm, ⟨15, _⟩ => ⟨S2x8448x2816, .f32⟩
  | .hbm, ⟨16, _⟩ => ⟨S_, .f32⟩
  | .hbm, ⟨17, _⟩ => ⟨S2x8448x2816, .f32⟩
  | .hbm, ⟨18, _⟩ => ⟨S2x8448x2816, .f32⟩
  | .hbm, ⟨19, _⟩ => ⟨S2x8448x2816, .f32⟩
  | .hbm, ⟨20, _⟩ => ⟨S2x8448x2816, .f32⟩
  | .hbm, ⟨21, _⟩ => ⟨S2x8448x2816, .f32⟩
  | .hbm, ⟨22, _⟩ => ⟨S2x8448x1024, .f32⟩
  | .hbm, ⟨23, _⟩ => ⟨S2x2x6x1024, .f32⟩
  | .hbm, ⟨24, _⟩ => ⟨S2x2x1x1024, .f32⟩
  | .hbm, ⟨25, _⟩ => ⟨S2x2x1024, .f32⟩
  | .hbm, ⟨26, _⟩ => ⟨S2x8192x1024, .f32⟩
  | .hbm, ⟨27, _⟩ => ⟨S2x1x1024, .f32⟩
  | .hbm, ⟨28, _⟩ => ⟨S2x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x256x1024, .f32⟩
  | .hbm, ⟨35, _⟩ => ⟨S2x1x1024, .f32⟩
  | .hbm, ⟨36, _⟩ => ⟨S2x1024, .f32⟩
  | .hbm, ⟨37, _⟩ => ⟨S2x1x1024, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== InProj.lean ====
abbrev S2x8448x1024 : Shape := ⟨3, ![2, 8448, 1024]⟩
abbrev S4x6x1024 : Shape := ⟨3, ![4, 6, 1024]⟩
abbrev S1024x3072 : Shape := ⟨2, ![1024, 3072]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S256x128 : Shape := ⟨2, ![256, 128]⟩
abbrev S8448x128 : Shape := ⟨2, ![8448, 128]⟩
abbrev S2x8448x768 : Shape := ⟨3, ![2, 8448, 768]⟩
abbrev S2x8448x256 : Shape := ⟨3, ![2, 8448, 256]⟩
abbrev S1x256x1024 : Shape := ⟨3, ![1, 256, 1024]⟩
abbrev S1x6x1024 : Shape := ⟨3, ![1, 6, 1024]⟩
abbrev S1x256x768 : Shape := ⟨3, ![1, 256, 768]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S256x3072 : Shape := ⟨2, ![256, 3072]⟩
abbrev S256x256 : Shape := ⟨2, ![256, 256]⟩
abbrev S256x512 : Shape := ⟨2, ![256, 512]⟩
abbrev S1x512 : Shape := ⟨2, ![1, 512]⟩
abbrev S1x256x512 : Shape := ⟨3, ![1, 256, 512]⟩
abbrev S256x768 : Shape := ⟨2, ![256, 768]⟩

abbrev nBuf : Space → Nat
  | .hbm => 87
  | .vmem => 19
  | .smem => 0
  | _ => 0

abbrev bufTy : (tb : Table) → Fin (tcTables nBuf tb) → BufTy
  | .hbm, ⟨0, _⟩ => ⟨S2x8448x1024, .f32⟩
  | .hbm, ⟨1, _⟩ => ⟨S4x6x1024, .f32⟩
  | .hbm, ⟨2, _⟩ => ⟨S1024x3072, .bf16⟩
  | .hbm, ⟨3, _⟩ => ⟨S8192, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192, .f32⟩
  | .hbm, ⟨31, _⟩ => ⟨S8192x1, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S_, .i1⟩
  | .hbm, ⟨52, _⟩ => ⟨S8192, .i1⟩
  | .hbm, ⟨53, _⟩ => ⟨S8192, .i1⟩
  | .hbm, ⟨54, _⟩ => ⟨S8192, .i1⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192, .f32⟩
  | .hbm, ⟨59, _⟩ => ⟨S8192x1, .f32⟩
  | .hbm, ⟨60, _⟩ => ⟨S1x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x64, .f32⟩
  | .hbm, ⟨68, _⟩ => ⟨S1x8192x1x64, .f32⟩
  | .hbm, ⟨69, _⟩ => ⟨S1x8192x2x64, .f32⟩
  | .hbm, ⟨70, _⟩ => ⟨S8192x128, .f32⟩
  | .hbm, ⟨71, _⟩ => ⟨S8192x32, .f32⟩
  | .hbm, ⟨72, _⟩ => ⟨S8192x64, .f32⟩
  | .hbm, ⟨73, _⟩ => ⟨S1x8192x1x64, .f32⟩
  | .hbm, ⟨74, _⟩ => ⟨S1x8192x2x64, .f32⟩
  | .hbm, ⟨75, _⟩ => ⟨S8192x128, .f32⟩
  | .hbm, ⟨76, _⟩ => ⟨S_, .f32⟩
  | .hbm, ⟨77, _⟩ => ⟨S256x128, .f32⟩
  | .hbm, ⟨78, _⟩ => ⟨S8448x128, .f32⟩
  | .hbm, ⟨79, _⟩ => ⟨S_, .f32⟩
  | .hbm, ⟨80, _⟩ => ⟨S256x128, .f32⟩
  | .hbm, ⟨81, _⟩ => ⟨S8448x128, .f32⟩
  | .hbm, ⟨82, _⟩ => ⟨S2x8448x768, .bf16⟩
  | .hbm, ⟨83, _⟩ => ⟨S2x8448x768, .bf16⟩
  | .hbm, ⟨84, _⟩ => ⟨S2x8448x768, .bf16⟩
  | .hbm, ⟨85, _⟩ => ⟨S2x8448x256, .f32⟩
  | .hbm, ⟨86, _⟩ => ⟨S2x8448x256, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x3072, .bf16⟩
  | .local _ .vmem, ⟨9, _⟩ => ⟨S1x256x768, .bf16⟩
  | .local _ .vmem, ⟨10, _⟩ => ⟨S1x256x768, .bf16⟩
  | .local _ .vmem, ⟨11, _⟩ => ⟨S1x256x768, .bf16⟩
  | .local _ .vmem, ⟨12, _⟩ => ⟨S1x256x768, .bf16⟩
  | .local _ .vmem, ⟨13, _⟩ => ⟨S1x256x768, .bf16⟩
  | .local _ .vmem, ⟨14, _⟩ => ⟨S1x256x768, .bf16⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_2 : Ref sig .tc := ⟨.hbm, 76, rfl⟩
abbrev main_v33 : Ref sig .tc := ⟨.hbm, 77, rfl⟩
abbrev main_v34 : Ref sig .tc := ⟨.hbm, 78, rfl⟩
abbrev main_cst_3 : Ref sig .tc := ⟨.hbm, 79, rfl⟩
abbrev main_v35 : Ref sig .tc := ⟨.hbm, 80, rfl⟩
abbrev main_v36 : Ref sig .tc := ⟨.hbm, 81, rfl⟩
abbrev main_v37_0 : Ref sig .tc := ⟨.hbm, 82, rfl⟩
abbrev main_v37_1 : Ref sig .tc := ⟨.hbm, 83, rfl⟩
abbrev main_v37_2 : Ref sig .tc := ⟨.hbm, 84, rfl⟩
abbrev main_v37_3 : Ref sig .tc := ⟨.hbm, 85, rfl⟩
abbrev main_v37_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 1 := Scalar.cmpi .sge arg1 c32_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjRefIdeal.lean ====
abbrev S2x8448x1024 : Shape := ⟨3, ![2, 8448, 1024]⟩
abbrev S4x6x1024 : Shape := ⟨3, ![4, 6, 1024]⟩
abbrev S1024x3072 : Shape := ⟨2, ![1024, 3072]⟩
abbrev S2x2x6x1024 : Shape := ⟨4, ![2, 2, 6, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x256x1024 : Shape := ⟨3, ![2, 256, 1024]⟩
abbrev S2x256 : Shape := ⟨2, ![2, 256]⟩
abbrev S2x256x1 : Shape := ⟨3, ![2, 256, 1]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S2x8192x3072 : Shape := ⟨3, ![2, 8192, 3072]⟩
abbrev S2x8192x256 : Shape := ⟨3, ![2, 8192, 256]⟩
abbrev S2x8192x512 : Shape := ⟨3, ![2, 8192, 512]⟩
abbrev S2x8192x768 : Shape := ⟨3, ![2, 8192, 768]⟩
abbrev S2x256x3072 : Shape := ⟨3, ![2, 256, 3072]⟩
abbrev S2x256x768 : Shape := ⟨3, ![2, 256, 768]⟩
abbrev S2x256x256 : Shape := ⟨3, ![2, 256, 256]⟩
abbrev S2x8192x8x64 : Shape := ⟨4, ![2, 8192, 8, 64]⟩
abbrev S2x8192x8x32 : Shape := ⟨4, ![2, 8192, 8, 32]⟩
abbrev S1x8192x1x32 : Shape := ⟨4, ![1, 8192, 1, 32]⟩
abbrev S2x8448x768 : Shape := ⟨3, ![2, 8448, 768]⟩
abbrev S2x8448x256 : Shape := ⟨3, ![2, 8448, 256]⟩

abbrev nBuf : Space → Nat
  | .hbm => 191
  | .vmem => 0
  | .smem => 0
  | _ => 0

abbrev hbmTy0_0 (i : Nat) : BufTy := match i % 128 with
  | 0 => ⟨S2x8448x1024, .f32⟩
  | 1 => ⟨S4x6x1024, .f32⟩
  | 2 => ⟨S1024x3072, .bf16⟩
  | 3 => ⟨S2x2x6x1024, .f32⟩
  | 4 => ⟨S1024x3072, .f32⟩
  | 5 => ⟨S2x8192x1024, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S2x1x1x1024, .f32⟩
  | 20 => ⟨S2x1024, .f32⟩
  | 21 => ⟨S2x1x1024, .f32⟩
  | 22 => ⟨S2x1x1x1024, .f32⟩
  | 23 => ⟨S2x1024, .f32⟩
  | 24 => ⟨S2x1x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x256x1024, .f32⟩
  | 33 => ⟨S2x256x1024, .f32⟩
  | 34 => ⟨S_, .f32⟩
  | 35 => ⟨S2x256, .f32⟩
  | 36 => ⟨S2x256x1, .f32⟩
  | 37 => ⟨S_, .f32⟩
  | 38 => ⟨S2x256x1, .f32⟩
  | 39 => ⟨S2x256x1, .f32⟩
  | 40 => ⟨S_, .f32⟩
  | 41 => ⟨S2x256x1, .f32⟩
  | 42 => ⟨S2x256x1, .f32⟩
  | 43 => ⟨S2x256x1, .f32⟩
  | 44 => ⟨S2x256x1024, .f32⟩
  | 45 => ⟨S2x256x1024, .f32⟩
  | 46 => ⟨S2x1x1x1024, .f32⟩
  | 47 => ⟨S2x1024, .f32⟩
  | 48 => ⟨S2x1x1024, .f32⟩
  | 49 => ⟨S2x1x1x1024, .f32⟩
  | 50 => ⟨S2x1024, .f32⟩
  | 51 => ⟨S2x1x1024, .f32⟩
  | 52 => ⟨S_, .f32⟩
  | 53 => ⟨S2x1x1024, .f32⟩
  | 54 => ⟨S2x1x1024, .f32⟩
  | 55 => ⟨S2x256x1024, .f32⟩
  | 56 => ⟨S2x256x1024, .f32⟩
  | 57 => ⟨S2x256x1024, .f32⟩
  | 58 => ⟨S2x256x1024, .f32⟩
  | 59 => ⟨S8192, .i32⟩
  | 60 => ⟨S_, .i32⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i1⟩
  | 68 => ⟨S8192, .i32⟩
  | 69 => ⟨S8192, .i32⟩
  | 70 => ⟨S_, .i32⟩
  | 71 => ⟨S8192, .i32⟩
  | 72 => ⟨S8192, .i1⟩
  | 73 => ⟨S8192, .i1⟩
  | 74 => ⟨S_, .i32⟩
  | 75 => ⟨S8192, .i32⟩
  | 76 => ⟨S8192, .i32⟩
  | 77 => ⟨S8192, .i32⟩
  | 78 => ⟨S8192, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i1⟩
  | 93 => ⟨S_, .i32⟩
  | 94 => ⟨S_, .i1⟩
  | 95 => ⟨S8192, .i1⟩
  | 96 => ⟨S8192, .i1⟩
  | 97 => ⟨S8192, .i1⟩
  | 98 => ⟨S8192, .i32⟩
  | 99 => ⟨S8192, .i32⟩
  | 100 => ⟨S8192, .i32⟩
  | 101 => ⟨S8192, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S8192x1, .f32⟩
  | 111 => ⟨S1x16, .f32⟩
  | 112 => ⟨S8192x16, .f32⟩
  | 113 => ⟨S8192x16, .f32⟩
  | 114 => ⟨S8192x16, .f32⟩
  | 115 => ⟨S8192x1, .f32⟩
  | 116 => ⟨S1x16, .f32⟩
  | 117 => ⟨S8192x16, .f32⟩
  | 118 => ⟨S8192x16, .f32⟩
  | 119 => ⟨S8192x16, .f32⟩
  | 120 => ⟨S8192x32, .f32⟩
  | 121 => ⟨S8192x32, .f32⟩
  | 122 => ⟨S8192x32, .f32⟩
  | 123 => ⟨S2x8192x3072, .f32⟩
  | 124 => ⟨S2x8192x256, .f32⟩
  | 125 => ⟨S2x8192x512, .f32⟩
  | 126 => ⟨S2x8192x256, .f32⟩
  | 127 => ⟨S2x8192x512, .f32⟩
  | _ => ⟨S2x8448x1024, .f32⟩

abbrev hbmTy0_1 (i : Nat) : BufTy := match i % 128 with
  | 0 => ⟨S2x8192x768, .f32⟩
  | 1 => ⟨S2x8192x256, .f32⟩
  | 2 => ⟨S2x8192x256, .f32⟩
  | 3 => ⟨S2x8192x256, .f32⟩
  | 4 => ⟨S2x256x3072, .f32⟩
  | 5 => ⟨S2x256x768, .f32⟩
  | 6 => ⟨S2x256x768, .f32⟩
  | 7 => ⟨S2x256x768, .f32⟩
  | 8 => ⟨S2x256x256, .f32⟩
  | 9 => ⟨S2x256x256, .f32⟩
  | 10 => ⟨S2x256x256, .f32⟩
  | 11 => ⟨S2x8192x8x64, .f32⟩
  | 12 => ⟨S2x8192x8x32, .f32⟩
  | 13 => ⟨S2x8192x8x32, .f32⟩
  | 14 => ⟨S1x8192x1x32, .f32⟩
  | 15 => ⟨S1x8192x1x32, .f32⟩
  | 16 => ⟨S2x8192x8x32, .f32⟩
  | 17 => ⟨S2x8192x8x32, .f32⟩
  | 18 => ⟨S2x8192x8x32, .f32⟩
  | 19 => ⟨S2x8192x8x32, .f32⟩
  | 20 => ⟨S2x8192x8x32, .f32⟩
  | 21 => ⟨S2x8192x8x32, .f32⟩
  | 22 => ⟨S2x8192x8x32, .f32⟩
  | 23 => ⟨S2x8192x8x32, .f32⟩
  | 24 => ⟨S2x8192x8x32, .f32⟩
  | 25 => ⟨S2x8192x8x32, .f32⟩
  | 26 => ⟨S2x8192x8x64, .f32⟩
  | 27 => ⟨S2x8192x512, .f32⟩
  | 28 => ⟨S2x8192x768, .f32⟩
  | 29 => ⟨S_, .f32⟩
  | 30 => ⟨S2x8192x768, .f32⟩
  | 31 => ⟨S2x8192x768, .f32⟩
  | 32 => ⟨S_, .f32⟩
  | 33 => ⟨S2x256x768, .f32⟩
  | 34 => ⟨S2x256x768, .f32⟩
  | 35 => ⟨S2x8448x768, .f32⟩
  | 36 => ⟨S2x8192x8x64, .f32⟩
  | 37 => ⟨S2x8192x8x32, .f32⟩
  | 38 => ⟨S2x8192x8x32, .f32⟩
  | 39 => ⟨S1x8192x1x32, .f32⟩
  | 40 => ⟨S1x8192x1x32, .f32⟩
  | 41 => ⟨S2x8192x8x32, .f32⟩
  | 42 => ⟨S2x8192x8x32, .f32⟩
  | 43 => ⟨S2x8192x8x32, .f32⟩
  | 44 => ⟨S2x8192x8x32, .f32⟩
  | 45 => ⟨S2x8192x8x32, .f32⟩
  | 46 => ⟨S2x8192x8x32, .f32⟩
  | 47 => ⟨S2x8192x8x32, .f32⟩
  | 48 => ⟨S2x8192x8x32, .f32⟩
  | 49 => ⟨S2x8192x8x32, .f32⟩
  | 50 => ⟨S2x8192x8x32, .f32⟩
  | 51 => ⟨S2x8192x8x64, .f32⟩
  | 52 => ⟨S2x8192x512, .f32⟩
  | 53 => ⟨S2x8192x768, .f32⟩
  | 54 => ⟨S2x8448x768, .f32⟩
  | 55 => ⟨S2x8448x768, .bf16⟩
  | 56 => ⟨S2x8448x768, .bf16⟩
  | 57 => ⟨S2x8448x768, .f32⟩
  | 58 => ⟨S2x8448x768, .bf16⟩
  | 59 => ⟨S2x8192x256, .f32⟩
  | 60 => ⟨S2x256x256, .f32⟩
  | 61 => ⟨S2x8448x256, .f32⟩
  | 62 => ⟨S2x8448x256, .f32⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v49 : Ref sig .tc := ⟨.hbm, 77, rfl⟩
abbrev main_v50 : Ref sig .tc := ⟨.hbm, 78, rfl⟩
abbrev main_c_7 : Ref sig .tc := ⟨.hbm, 79, rfl⟩
abbrev main_call1_v0 : Ref sig .tc := ⟨.hbm, 80, rfl⟩
abbrev main_call1_c : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_c_1 : Ref sig .tc := ⟨.hbm, 87, rfl⟩
abbrev main_call1_v5 : Ref sig .tc := ⟨.hbm, 88, rfl⟩
abbrev main_call1_v6 : Ref sig .tc := ⟨.hbm, 89, rfl⟩
abbrev main_call1_c_2 : Ref sig .tc := ⟨.hbm, 90, rfl⟩
abbrev main_call1_v7 : Ref sig .tc := ⟨.hbm, 91, rfl⟩
abbrev main_call1_v8 : Ref sig .tc := ⟨.hbm, 92, rfl⟩
abbrev main_call1_c_3 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_8 : Ref sig .tc := ⟨.hbm, 104, rfl⟩
abbrev main_v55 : Ref sig .tc := ⟨.hbm, 105, rfl⟩
abbrev main_v56 : Ref sig .tc := ⟨.hbm, 106, rfl⟩
abbrev main_cst_9 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_10 : Ref sig .tc := ⟨.hbm, 157, rfl⟩
abbrev main_v106 : Ref sig .tc := ⟨.hbm, 158, rfl⟩
abbrev main_v107 : Ref sig .tc := ⟨.hbm, 159, rfl⟩
abbrev main_cst_11 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]
-- ==== DiffTwo.lean ====
abbrev S2x8448x768 : Shape := ⟨3, ![2, 8448, 768]⟩
abbrev S4x64 : Shape := ⟨2, ![4, 64]⟩
abbrev S1x128 : Shape := ⟨2, ![1, 128]⟩
abbrev S2x8192x512 : Shape := ⟨3, ![2, 8192, 512]⟩
abbrev S1x512x128 : Shape := ⟨3, ![1, 512, 128]⟩
abbrev S1x768x128 : Shape := ⟨3, ![1, 768, 128]⟩
abbrev S2x512x1 : Shape := ⟨3, ![2, 512, 1]⟩
abbrev S2x512x128 : Shape := ⟨3, ![2, 512, 128]⟩
abbrev S512x128 : Shape := ⟨2, ![512, 128]⟩
abbrev S768x128 : Shape := ⟨2, ![768, 128]⟩
abbrev S512x768 : Shape := ⟨2, ![512, 768]⟩
abbrev S1x512x1 : Shape := ⟨3, ![1, 512, 1]⟩
abbrev S512x1 : Shape := ⟨2, ![512, 1]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S2x8448x768, .bf16⟩
  | .hbm, ⟨1, _⟩ => ⟨S2x8448x768, .bf16⟩
  | .hbm, ⟨2, _⟩ => ⟨S2x8448x768, .bf16⟩
  | .hbm, ⟨3, _⟩ => ⟨S4x64, .f32⟩
  | .hbm, ⟨4, _⟩ => ⟨S1x128, .f32⟩
  | .hbm, ⟨5, _⟩ => ⟨S2x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x768x128, .bf16⟩
  | .local _ .vmem, ⟨3, _⟩ => ⟨S1x768x128, .bf16⟩
  | .local _ .vmem, ⟨4, _⟩ => ⟨S1x768x128, .bf16⟩
  | .local _ .vmem, ⟨5, _⟩ => ⟨S1x768x128, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S2x8448x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 4, 16, 11], ![false, false, false, false]⟩

def k0_cond2 (i : grid0.Coords) : BitVec 1 :=
  let arg3 : BitVec 32 := BitVec.ofNat 32 (i 3).val
  let c10_i32 : BitVec 32 := 10#32
  let v94 : BitVec 1 := Scalar.cmpi .eq arg3 c10_i32
  let v95 : BitVec 32 := Scalar.extui v94
  let c0_i32_55 : BitVec 32 := 0#32
  let v96 : BitVec 1 := Scalar.cmpi .ne v95 c0_i32_55
  v96

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c2_i32 : BitVec 32 := 2#32
  let v1 : BitVec 32 := Scalar.addi c2_i32 arg1
  let c0_i32_0 : BitVec 32 := 0#32
  ![arg0.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c2_i32 : BitVec 32 := 2#32
  let v1 : BitVec 32 := Scalar.addi c2_i32 arg1
  let c0_i32_0 : BitVec 32 := 0#32
  ![arg0.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c2_i32 : BitVec 32 := 2#32
  let v1 : BitVec 32 := Scalar.addi c2_i32 arg1
  let c0_i32_0 : BitVec 32 := 0#32
  ![arg0.toNat, v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== DiffTwoRefIdeal.lean ====
abbrev S2x8448x768 : Shape := ⟨3, ![2, 8448, 768]⟩
abbrev S4x64 : Shape := ⟨2, ![4, 64]⟩
abbrev S1x128 : Shape := ⟨2, ![1, 128]⟩
abbrev S2x8192x512 : Shape := ⟨3, ![2, 8192, 512]⟩
abbrev S2x8192x8x64 : Shape := ⟨4, ![2, 8192, 8, 64]⟩
abbrev S2x8448x512 : Shape := ⟨3, ![2, 8448, 512]⟩
abbrev S2x8448x8x64 : Shape := ⟨4, ![2, 8448, 8, 64]⟩
abbrev S2x8448x4x128 : Shape := ⟨4, ![2, 8448, 4, 128]⟩
abbrev S1x64 : Shape := ⟨2, ![1, 64]⟩
abbrev S64 : Shape := ⟨1, ![64]⟩
abbrev S_ : Shape := ⟨0, ![]⟩
abbrev S2x8x8192x8448 : Shape := ⟨4, ![2, 8, 8192, 8448]⟩
abbrev S2x8x8192 : Shape := ⟨3, ![2, 8, 8192]⟩
abbrev S2x8x8192x1 : Shape := ⟨4, ![2, 8, 8192, 1]⟩
abbrev S2x4x2x8192x8448 : Shape := ⟨5, ![2, 4, 2, 8192, 8448]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x8448x768, .bf16⟩
  | .hbm, ⟨1, _⟩ => ⟨S2x8448x768, .bf16⟩
  | .hbm, ⟨2, _⟩ => ⟨S2x8448x768, .bf16⟩
  | .hbm, ⟨3, _⟩ => ⟨S4x64, .f32⟩
  | .hbm, ⟨4, _⟩ => ⟨S1x128, .f32⟩
  | .hbm, ⟨5, _⟩ => ⟨S2x8192x512, .bf16⟩
  | .hbm, ⟨6, _⟩ => ⟨S2x8192x512, .f32⟩
  | .hbm, ⟨7, _⟩ => ⟨S2x8192x8x64, .f32⟩
  | .hbm, ⟨8, _⟩ => ⟨S2x8448x512, .bf16⟩
  | .hbm, ⟨9, _⟩ => ⟨S2x8448x512, .f32⟩
  | .hbm, ⟨10, _⟩ => ⟨S2x8448x8x64, .f32⟩
  | .hbm, ⟨11, _⟩ => ⟨S2x8448x512, .bf16⟩
  | .hbm, ⟨12, _⟩ => ⟨S2x8448x512, .f32⟩
  | .hbm, ⟨13, _⟩ => ⟨S2x8448x4x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x8x8192x8448, .f32⟩
  | .hbm, ⟨34, _⟩ => ⟨S_, .f32⟩
  | .hbm, ⟨35, _⟩ => ⟨S2x8x8192, .f32⟩
  | .hbm, ⟨36, _⟩ => ⟨S_, .f32⟩
  | .hbm, ⟨37, _⟩ => ⟨S2x8x8192, .f32⟩
  | .hbm, ⟨38, _⟩ => ⟨S2x8x8192, .f32⟩
  | .hbm, ⟨39, _⟩ => ⟨S2x8x8192x1, .f32⟩
  | .hbm, ⟨40, _⟩ => ⟨S2x8x8192x8448, .f32⟩
  | .hbm, ⟨41, _⟩ => ⟨S2x8x8192x8448, .f32⟩
  | .hbm, ⟨42, _⟩ => ⟨S2x8x8192x8448, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S2x8x8192x8448, .f32⟩
  | .hbm, ⟨47, _⟩ => ⟨S2x8x8192x8448, .f32⟩
  | .hbm, ⟨48, _⟩ => ⟨S2x4x2x8192x8448, .f32⟩
  | .hbm, ⟨49, _⟩ => ⟨S2x4x1x8192x8448, .f32⟩
  | .hbm, ⟨50, _⟩ => ⟨S2x4x8192x8448, .f32⟩
  | .hbm, ⟨51, _⟩ => ⟨S2x4x1x8192x8448, .f32⟩
  | .hbm, ⟨52, _⟩ => ⟨S2x4x8192x8448, .f32⟩
  | .hbm, ⟨53, _⟩ => ⟨S2x4x8192x8448, .f32⟩
  | .hbm, ⟨54, _⟩ => ⟨S2x4x8192x8448, .f32⟩
  | .hbm, ⟨55, _⟩ => ⟨S2x4x8192x8448, .f32⟩
  | .hbm, ⟨56, _⟩ => ⟨S2x4x128x8192, .f32⟩
  | .hbm, ⟨57, _⟩ => ⟨S2x8192x4x128, .f32⟩
  | .hbm, ⟨58, _⟩ => ⟨S128, .f32⟩
  | .hbm, ⟨59, _⟩ => ⟨S2x8192x4x128, .f32⟩
  | .hbm, ⟨60, _⟩ => ⟨S_, .f32⟩
  | .hbm, ⟨61, _⟩ => ⟨S2x8192x4, .f32⟩
  | .hbm, ⟨62, _⟩ => ⟨S2x8192x4x1, .f32⟩
  | .hbm, ⟨63, _⟩ => ⟨S_, .f32⟩
  | .hbm, ⟨64, _⟩ => ⟨S2x8192x4x1, .f32⟩
  | .hbm, ⟨65, _⟩ => ⟨S2x8192x4x1, .f32⟩
  | .hbm, ⟨66, _⟩ => ⟨S_, .f32⟩
  | .hbm, ⟨67, _⟩ => ⟨S2x8192x4x1, .f32⟩
  | .hbm, ⟨68, _⟩ => ⟨S2x8192x4x1, .f32⟩
  | .hbm, ⟨69, _⟩ => ⟨S2x8192x4x1, .f32⟩
  | .hbm, ⟨70, _⟩ => ⟨S2x8192x4x128, .f32⟩
  | .hbm, ⟨71, _⟩ => ⟨S2x8192x4x128, .f32⟩
  | .hbm, ⟨72, _⟩ => ⟨S1x1x1x128, .f32⟩
  | .hbm, ⟨73, _⟩ => ⟨S2x8192x4x128, .f32⟩
  | .hbm, ⟨74, _⟩ => ⟨S2x8192x4x128, .f32⟩
  | .hbm, ⟨75, _⟩ => ⟨S_, .f32⟩
  | .hbm, ⟨76, _⟩ => ⟨S2x8192x4x128, .f32⟩
  | .hbm, ⟨77, _⟩ => ⟨S2x8192x4x128, .f32⟩
  | .hbm, ⟨78, _⟩ => ⟨S2x8192x512, .f32⟩
  | .hbm, ⟨79, _⟩ => ⟨S2x8192x512, .bf16⟩
  | _, _ => ⟨S2x8448x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Proof.Softmax.lean ====
/- The softmax of a row of real scores, weighted by a row of real values: the running form that takes the keys block by block
   under a moving maximum, and the plain form, over the extended reals. -/
module

public import Idealize.ShloMosaic.Lib.Pipeline.ValueKit

@[expose] public section

noncomputable section

namespace Cert.Hand

open Idealize.ShloMosaic

/-- A finite extended real is the real it stands for. -/
theorem eq_coe {x : EReal} (h : x ≠ ⊥ ∧ x ≠ ⊤) : x = ((x.toReal : ℝ) : EReal) := (EReal.coe_toReal h.2 h.1).symm

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl

/-- Division by a positive real. -/
theorem div_coe_pos (x y : ℝ) (hy : 0 < y) : Ideal.div (x : EReal) (y : EReal) = ((x / y : ℝ) : EReal) := by
  have h : ((y : ℝ) : EReal) ≠ 0 := fun h => hy.ne' (EReal.coe_eq_zero.mp h)
  rw [Ideal.div, if_neg h, ← EReal.coe_inv, ← EReal.coe_mul, div_eq_mul_inv]

/-- The greatest of a nonempty row of reals, started below all of them, is a real. -/
theorem max_coe {n : ℕ} (f : Fin (n + 1) → ℝ) :
    ∃ μ : ℝ, Finset.fold max (⊥ : EReal) (fun x => ((f x : ℝ) : EReal)) Finset.univ = (μ : EReal) := by
  classical
  have key : ∀ s : Finset (Fin (n + 1)), s.Nonempty → ∃ μ : ℝ, Finset.fold max (⊥ : EReal) (fun x => ((f x : ℝ) : EReal)) s = (μ : EReal) := by
    intro s hs
    induction hs using Finset.Nonempty.cons_induction with
    | singleton a => exact ⟨f a, by rw [Finset.fold_singleton]; exact max_bot_right _⟩
    | cons a s ha hs ih =>
      obtain ⟨μ, hμ⟩ := ih
      exact ⟨max (f a) μ, by rw [Finset.fold_cons, hμ]; exact (EReal.coe_strictMono.monotone.map_max (a := f a) (b := μ)).symm⟩
  exact key _ Finset.univ_nonempty

theorem neg_inf : Ideal.ofBits FTy.f32 4286578688#32 = (⊥ : EReal) := by simp [Ideal.ofBits, Ideal.ieee]

theorem neg_big : ∃ x : ℝ, Ideal.ofBits FTy.f32 4048155338#32 = (x : EReal) := by
  refine ⟨-(2 ^ 76 * 13234890), ?_⟩
  simp [Ideal.ofBits, Ideal.ieee, -EReal.coe_mul]
  norm_num

/-- The running maximum after a block of scores. -/
def newM {n : ℕ} (m : EReal) (s : Fin n → EReal) : EReal := max m (Finset.fold max (Ideal.ofBits FTy.f32 4286578688#32) s Finset.univ)

/-- The running sum of a block's weights, the earlier ones scaled to the new maximum. -/
def newL {n : ℕ} (m l : EReal) (s : Fin n → EReal) : EReal :=
  Ideal.exp (m - newM m s) * l + ∑ x, Ideal.exp (s x - newM m s)

/-- The running weighted sum of the values, likewise. -/
def newA {n : ℕ} (m a : EReal) (s w : Fin n → EReal) : EReal :=
  Ideal.exp (m - newM m s) * a + ∑ x, Ideal.exp (s x - newM m s) * w x

/-- After the first `n` keys: some real shift `μ`, the weights' sum and the weighted values' sum under it. -/
def Seen (s v : ℕ → ℝ) (n : ℕ) (m l a : EReal) : Prop :=
  ∃ μ : ℝ, m = (μ : EReal) ∧ l = ((∑ k ∈ Finset.range n, Real.exp (s k - μ) : ℝ) : EReal)
    ∧ a = ((∑ k ∈ Finset.range n, Real.exp (s k - μ) * v k : ℝ) : EReal)

theorem seen_start (s v : ℕ → ℝ) : Seen s v 0 (Ideal.ofBits FTy.f32 4048155338#32) 0 0 := by
  obtain ⟨x, hx⟩ := neg_big
  exact ⟨x, hx, by simp, by simp⟩

/-- A block of keys. -/
theorem seen_step (s v : ℕ → ℝ) (n b : ℕ) (m l a : EReal) (σ w : Fin (b + 1) → EReal) (h : Seen s v n m l a)
    (hσ : ∀ x, σ x = ((s (n + x) : ℝ) : EReal)) (hw : ∀ x, w x = ((v (n + x) : ℝ) : EReal)) :
    Seen s v (n + (b + 1)) (newM m σ) (newL m l σ) (newA m a σ w) := by
  obtain ⟨μ, rfl, rfl, rfl⟩ := h
  obtain rfl : σ = fun x : Fin (b + 1) => ((s (n + x) : ℝ) : EReal) := funext hσ
  obtain rfl : w = fun x : Fin (b + 1) => ((v (n + x) : ℝ) : EReal) := funext hw
  obtain ⟨ν, hν⟩ := max_coe fun x : Fin (b + 1) => s (n + x)
  have hM : newM (μ : EReal) (fun x : Fin (b + 1) => ((s (n + x) : ℝ) : EReal)) = ((max μ ν : ℝ) : EReal) := by
    rw [newM, neg_inf, hν]; exact (EReal.coe_strictMono.monotone.map_max (a := μ) (b := ν)).symm
  have hs : ∀ k, Real.exp (μ - max μ ν) * Real.exp (s k - μ) = Real.exp (s k - max μ ν) := fun k => by
    rw [← Real.exp_add]; congr 1; ring
  refine ⟨max μ ν, hM, ?_, ?_⟩
  · rw [newL, hM, Finset.sum_range_add, Finset.sum_range (fun x => Real.exp (s (n + x) - max μ ν))]
    simp only [← EReal.coe_sub, exp_coe, ← EReal.coe_mul, coe_sum, ← EReal.coe_add, Finset.mul_sum, hs]
  · rw [newA, hM, Finset.sum_range_add, Finset.sum_range (fun x => Real.exp (s (n + x) - max μ ν) * v (n + x))]
    simp only [← EReal.coe_sub, exp_coe, ← EReal.coe_mul, coe_sum, ← EReal.coe_add, Finset.mul_sum, ← mul_assoc, hs]

/-- The softmax-weighted sum of the first `n` values. -/
def soft (s v : ℕ → ℝ) (n : ℕ) : ℝ := (∑ k ∈ Finset.range n, Real.exp (s k) * v k) / ∑ k ∈ Finset.range n, Real.exp (s k)

/-- The shift drops out of the quotient. -/
theorem seen_div (s v : ℕ → ℝ) (n : ℕ) (m l a : EReal) (hn : 0 < n) (h : Seen s v n m l a) : Ideal.div a l = ((soft s v n : ℝ) : EReal) := by
  obtain ⟨μ, rfl, rfl, rfl⟩ := h
  have hp : ∀ c : ℝ, 0 < ∑ k ∈ Finset.range n, Real.exp (s k - c) := fun c =>
    Finset.sum_pos (fun _ _ => Real.exp_pos _) ⟨0, Finset.mem_range.mpr hn⟩
  rw [div_coe_pos _ _ (hp μ), soft]
  congr 1
  have e : ∀ k, Real.exp (s k - μ) = Real.exp (-μ) * Real.exp (s k) := fun k => by
    rw [← Real.exp_add]; congr 1; ring
  simp only [e, mul_assoc, ← Finset.mul_sum]
  exact mul_div_mul_left _ _ (Real.exp_ne_zero _)

/-- One weight of the plain softmax over `b + 1` keys is a real, and its weighted sum of values is `soft`: the plain form's maximum
    is some real, and drops out of the quotient. -/
theorem soft_weight (s : ℕ → ℝ) (b : ℕ) (σ : Fin (b + 1) → EReal) (hσ : ∀ x, σ x = ((s x : ℝ) : EReal)) (x : Fin (b + 1)) :
    Ideal.div (Ideal.exp (σ x - max (Ideal.ofBits FTy.f32 4286578688#32) (Finset.fold max (Ideal.ofBits FTy.f32 4286578688#32) σ Finset.univ)))
        (∑ y, Ideal.exp (σ y - max (Ideal.ofBits FTy.f32 4286578688#32) (Finset.fold max (Ideal.ofBits FTy.f32 4286578688#32) σ Finset.univ)))
      = ((Real.exp (s x) / ∑ k ∈ Finset.range (b + 1), Real.exp (s k) : ℝ) : EReal) := by
  obtain rfl : σ = fun x : Fin (b + 1) => ((s x : ℝ) : EReal) := funext hσ
  obtain ⟨μ, hμ⟩ := max_coe fun x : Fin (b + 1) => s x
  rw [neg_inf, hμ, max_eq_right bot_le]
  simp only [← EReal.coe_sub, exp_coe, coe_sum]
  have hp : 0 < ∑ y : Fin (b + 1), Real.exp (s y - μ) := Finset.sum_pos (fun _ _ => Real.exp_pos _) Finset.univ_nonempty
  rw [div_coe_pos _ _ hp, Finset.sum_range]
  congr 1
  have e : ∀ k, Real.exp (s k - μ) = Real.exp (-μ) * Real.exp (s k) := fun k => by
    rw [← Real.exp_add]; congr 1; ring
  simp only [e, ← Finset.mul_sum]
  exact mul_div_mul_left _ _ (Real.exp_ne_zero _)

/-- The difference of two softmaxes over the same values: the weights' difference against the values is the difference of the
    weighted sums. -/
theorem soft_diff (s0 s1 v : ℕ → ℝ) (c : ℝ) (b : ℕ) :
    ∑ x : Fin (b + 1), ((v x : ℝ) : EReal) * (((Real.exp (s0 x) / ∑ k ∈ Finset.range (b + 1), Real.exp (s0 k) : ℝ) : EReal)
        - (c : EReal) * ((Real.exp (s1 x) / ∑ k ∈ Finset.range (b + 1), Real.exp (s1 k) : ℝ) : EReal))
      = ((soft s0 v (b + 1) : ℝ) : EReal) - (c : EReal) * ((soft s1 v (b + 1) : ℝ) : EReal) := by
  simp only [← EReal.coe_mul, ← EReal.coe_sub, coe_sum]
  congr 1
  rw [soft, soft, Finset.sum_range (fun k => Real.exp (s0 k) * v k), Finset.sum_range (fun k => Real.exp (s1 k) * v k), Finset.sum_div,
    Finset.sum_div, Finset.mul_sum, ← Finset.sum_sub_distrib]
  exact Finset.sum_congr rfl fun x _ => by ring

end Cert.Hand

end
-- ==== Proof.DiffPay.lean ====
/- The differential attention kernel's payloads, read at an index: one key tile's scores, running maximum, sum and weighted sum of
   each of the pair's two heads, and the last step's store. -/
module

public import proofs.«01_k».proof.Proof.Gen.DiffIdeal.Skeleton
public import Idealize.ShloMosaic.Lib.Pipeline.ValueKit
public import proofs.«01_k».proof.Proof.Softmax

@[expose] public section

set_option maxRecDepth 16384

noncomputable section

namespace Cert.DiffIdeal.Hand

open Cert.DiffIdeal Cert.DiffIdeal.Gen Idealize.ShloMosaic Idealize.ShloMosaic.TcCoe Idealize.SL.Sem Cert.Hand

/-- The score of query row `r` against key row `j` of a tile in the pair's head `hh`: the product over that head's 64 lanes. -/
def sc (hh : Fin 2) (q : FVec Ideal S1x512x128 .bf16) (k : FVec Ideal S1x768x128 .bf16) (r : Fin 512) (j : Fin 768) : EReal :=
  ∑ y : Fin 64, q (ix3 0 r (⟨(hh : ℕ) * 64 + y, by omega⟩ : Fin 128)) * k (ix3 0 j (⟨(hh : ℕ) * 64 + y, by omega⟩ : Fin 128))

/-- The sum over the 128 lanes of the products kept in head 0's lanes. -/
theorem lanes0 (f : Fin 128 → EReal) :
    ∑ x : Fin 128, Scalar.select (IntOp.andi (IntOp.cmpi CmpIPredicate.sge (BitVec.ofNat 32 ↑x) 0#32)
        (IntOp.cmpi CmpIPredicate.slt (BitVec.ofNat 32 ↑x) 64#32)) (f x) 0 = ∑ y : Fin 64, f (⟨0 * 64 + (y : ℕ), by omega⟩ : Fin 128) := by
  have e := Fin.sum_univ_add (a := 64) (b := 64) fun x : Fin 128 => Scalar.select (IntOp.andi (IntOp.cmpi CmpIPredicate.sge (BitVec.ofNat 32 ↑x) 0#32)
        (IntOp.cmpi CmpIPredicate.slt (BitVec.ofNat 32 ↑x) 64#32)) (f x) 0
  refine e.trans ?_
  rw [Finset.sum_congr (g := fun _ => (0 : EReal)) rfl (fun y _ => Scalar.select_of_eq_zero
    ((by decide : ∀ y : Fin 64, IntOp.andi (IntOp.cmpi CmpIPredicate.sge (BitVec.ofNat 32 (Fin.natAdd 64 y : Fin 128)) 0#32)
      (IntOp.cmpi CmpIPredicate.slt (BitVec.ofNat 32 (Fin.natAdd 64 y : Fin 128)) 64#32) = 0#1) y) _ _), Finset.sum_const_zero, add_zero]
  refine Finset.sum_congr rfl fun y _ => (Scalar.select_of_eq_one
    ((by decide : ∀ y : Fin 64, IntOp.andi (IntOp.cmpi CmpIPredicate.sge (BitVec.ofNat 32 (Fin.castAdd 64 y : Fin 128)) 0#32)
      (IntOp.cmpi CmpIPredicate.slt (BitVec.ofNat 32 (Fin.castAdd 64 y : Fin 128)) 64#32) = 1#1) y) _ _).trans (congrArg f (Fin.ext ?_))
  show (y : ℕ) = 0 * 64 + (y : ℕ); omega

/-- The sum over the 128 lanes of the products kept in head 1's lanes. -/
theorem lanes1 (f : Fin 128 → EReal) :
    ∑ x : Fin 128, Scalar.select (IntOp.andi (IntOp.cmpi CmpIPredicate.sge (BitVec.ofNat 32 ↑x) 64#32)
        (IntOp.cmpi CmpIPredicate.slt (BitVec.ofNat 32 ↑x) 128#32)) (f x) 0 = ∑ y : Fin 64, f (⟨1 * 64 + (y : ℕ), by omega⟩ : Fin 128) := by
  have e := Fin.sum_univ_add (a := 64) (b := 64) fun x : Fin 128 => Scalar.select (IntOp.andi (IntOp.cmpi CmpIPredicate.sge (BitVec.ofNat 32 ↑x) 64#32)
        (IntOp.cmpi CmpIPredicate.slt (BitVec.ofNat 32 ↑x) 128#32)) (f x) 0
  refine e.trans ?_
  rw [Finset.sum_congr (g := fun _ => (0 : EReal)) rfl (fun y _ => Scalar.select_of_eq_zero
    ((by decide : ∀ y : Fin 64, IntOp.andi (IntOp.cmpi CmpIPredicate.sge (BitVec.ofNat 32 (Fin.castAdd 64 y : Fin 128)) 64#32)
      (IntOp.cmpi CmpIPredicate.slt (BitVec.ofNat 32 (Fin.castAdd 64 y : Fin 128)) 128#32) = 0#1) y) _ _), Finset.sum_const_zero, zero_add]
  refine Finset.sum_congr rfl fun y _ => (Scalar.select_of_eq_one
    ((by decide : ∀ y : Fin 64, IntOp.andi (IntOp.cmpi CmpIPredicate.sge (BitVec.ofNat 32 (Fin.natAdd 64 y : Fin 128)) 64#32)
      (IntOp.cmpi CmpIPredicate.slt (BitVec.ofNat 32 (Fin.natAdd 64 y : Fin 128)) 128#32) = 1#1) y) _ _).trans (congrArg f (Fin.ext ?_))
  show 64 + (y : ℕ) = 1 * 64 + (y : ℕ); omega

variable (q : FVec Ideal S1x512x128 .bf16) (k v : FVec Ideal S1x768x128 .bf16) (m l : FVec Ideal S1x512x1 .f32)
  (a : FVec Ideal S1x512x128 .f32) (b : Fin 1) (r : Fin 512) (d : Fin 128)

/-- The scratches' first contents. -/
theorem pay9_at (i : S2x512x1.Idx) : k0_pay9 (F := Ideal) i = Ideal.ofBits FTy.f32 4048155338#32 := by pointwise [k0_pay9]
theorem pay10_at (i : S2x512x1.Idx) : k0_pay10 (F := Ideal) i = (0 : EReal) := by pointwise [k0_pay10]
theorem pay11_at (i : S2x512x128.Idx) : k0_pay11 (F := Ideal) i = (0 : EReal) := by pointwise [k0_pay11]

/-- Head 0's scores. -/
theorem pay15_at (j : Fin 768) : k0_pay15 (F := Ideal) q k (ix2 r j) = sc 0 q k r j := by
  pointwise [k0_pay15, k0_pay12, k0_pay13]
  exact lanes0 fun x => q (ix3 0 r x) * k (ix3 0 j x)

/-- Head 1's scores. -/
theorem pay24_at (j : Fin 768) :
    k0_pay24 (F := Ideal) (iota .tc S1x128 32 [1] iota_S1x128_d1_w32) (k0_pay12 q) (k0_pay13 k) (ix2 r j) = sc 1 q k r j := by
  pointwise [k0_pay24, k0_pay12, k0_pay13]
  exact lanes1 fun x => q (ix3 0 r x) * k (ix3 0 j x)

/-- Head 0's new maximum. -/
theorem pay17_at (z : Fin 1) : k0_pay17 (F := Ideal) q k m (ix2 r z) = newM (m (ix3 0 r 0)) (sc 0 q k r) := by
  pointwise [k0_pay17, k0_pay16, newM, pay15_at]

/-- Head 1's new maximum. -/
theorem pay26_at (z : Fin 1) :
    k0_pay26 (F := Ideal) (iota .tc S1x128 32 [1] iota_S1x128_d1_w32) (k0_pay12 q) (k0_pay13 k) m (ix2 r z)
      = newM (m (ix3 0 r 0)) (sc 1 q k r) := by
  pointwise [k0_pay26, k0_pay25, newM]
  exact congrArg _ (Finset.fold_congr fun x _ => pay24_at q k r x)

/-- What the two heads' maxima are stored as. -/
theorem m0_at : k0_pay23 (F := Ideal) (k0_pay17 q k m) (ix3 b r 0) = newM (m (ix3 0 r 0)) (sc 0 q k r) := by
  pointwise [k0_pay23, pay17_at]
theorem m1_at :
    k0_pay5 (F := Ideal) (k0_pay26 (iota .tc S1x128 32 [1] iota_S1x128_d1_w32) (k0_pay12 q) (k0_pay13 k) m) (ix3 b r 0)
      = newM (m (ix3 0 r 0)) (sc 1 q k r) := by
  pointwise [k0_pay5]
  exact pay26_at q k m r 0

/-- What the two heads' sums of weights are stored as. -/
theorem l0_at : k0_pay21 (F := Ideal) (k0_pay19 q k m) (k0_pay20 q k m l) (ix3 b r 0)
    = newL (m (ix3 0 r 0)) (l (ix3 0 r 0)) (sc 0 q k r) := by
  pointwise [k0_pay21, k0_pay19, k0_pay20, k0_pay18, k0_pay16, pay17_at, pay15_at, newL]
theorem l1_at :
    k0_pay3 (F := Ideal) (k0_pay24 (iota .tc S1x128 32 [1] iota_S1x128_d1_w32) (k0_pay12 q) (k0_pay13 k))
        (k0_pay26 (iota .tc S1x128 32 [1] iota_S1x128_d1_w32) (k0_pay12 q) (k0_pay13 k) m)
        (k0_pay27 (iota .tc S1x128 32 [1] iota_S1x128_d1_w32) (k0_pay12 q) (k0_pay13 k) m) l (ix3 b r 0)
      = newL (m (ix3 0 r 0)) (l (ix3 0 r 0)) (sc 1 q k r) := by
  pointwise [k0_pay3, k0_pay1, k0_pay2, k0_pay27, k0_pay25, newL]
  rw [show _ = newM (m (ix3 0 r 0)) (sc 1 q k r) from pay26_at q k m r 0]
  exact congrArg _ (Finset.sum_congr rfl fun x _ => by rw [show _ = sc 1 q k r x from pay24_at q k r x])

/-- What the two heads' weighted sums of the values are stored as. -/
theorem a0_at : k0_pay22 (F := Ideal) (k0_pay14 v) (k0_pay18 q k m) (k0_pay19 q k m) a (ix3 b r d)
    = newA (m (ix3 0 r 0)) (a (ix3 0 r d)) (sc 0 q k r) (fun x => v (ix3 0 x d)) := by
  pointwise [k0_pay22, k0_pay14, k0_pay19, k0_pay18, k0_pay16, pay17_at, pay15_at, newA]
theorem a1_at :
    k0_pay4 (F := Ideal) (k0_pay14 v) (k0_pay24 (iota .tc S1x128 32 [1] iota_S1x128_d1_w32) (k0_pay12 q) (k0_pay13 k))
        (k0_pay26 (iota .tc S1x128 32 [1] iota_S1x128_d1_w32) (k0_pay12 q) (k0_pay13 k) m)
        (k0_pay27 (iota .tc S1x128 32 [1] iota_S1x128_d1_w32) (k0_pay12 q) (k0_pay13 k) m) a (ix3 b r d)
      = newA (m (ix3 0 r 0)) (a (ix3 0 r d)) (sc 1 q k r) (fun x => v (ix3 0 x d)) := by
  pointwise [k0_pay4, k0_pay14, k0_pay1, k0_pay2, k0_pay27, k0_pay25, newA]
  rw [show _ = newM (m (ix3 0 r 0)) (sc 1 q k r) from pay26_at q k m r 0]
  exact congrArg _ (Finset.sum_congr rfl fun x _ => by rw [show _ = sc 1 q k r x from pay24_at q k r x])

/-- The lambda of the pair, from the four parameter rows. -/
def lam (lp : FVec Ideal S4x64 .f32) : EReal :=
  Ideal.exp (∑ x, lp (ix2 0 x) * lp (ix2 1 x)) - Ideal.exp (∑ x, lp (ix2 2 x) * lp (ix2 3 x)) + Ideal.ofBits FTy.f32 1045220557#32

/-- The difference of the two heads' weighted means. -/
theorem pay7_at (lp : FVec Ideal S4x64 .f32) (a0 a1 : FVec Ideal S1x512x128 .f32) (l0 l1 : FVec Ideal S1x512x1 .f32) :
    k0_pay7 (F := Ideal) lp a0 l0 a1 l1 (ix2 r d)
      = Ideal.div (a0 (ix3 0 r d)) (l0 (ix3 0 r 0)) - lam lp * Ideal.div (a1 (ix3 0 r d)) (l1 (ix3 0 r 0)) := by
  pointwise [k0_pay7, lam]

/-- The last step's store: the difference normalised by its root mean square and scaled. -/
theorem out_at (lp : FVec Ideal S4x64 .f32) (a0 a1 : FVec Ideal S1x512x128 .f32) (l0 l1 : FVec Ideal S1x512x1 .f32) (gn : FVec Ideal S1x128 .f32)
    (o : Fin 128 → EReal) (ho : ∀ x, Ideal.div (a0 (ix3 0 r x)) (l0 (ix3 0 r 0)) - lam lp * Ideal.div (a1 (ix3 0 r x)) (l1 (ix3 0 r 0)) = o x) :
    k0_pay6 (F := Ideal) (k0_pay7 lp a0 l0 a1 l1) (k0_pay8 lp a0 l0 a1 l1) gn (ix3 b r d)
      = o d * Ideal.rsqrt (Ideal.div (∑ x, o x * o x) (Ideal.ofBits FTy.f32 1124073472#32) + Ideal.ofBits FTy.f32 897988541#32)
          * gn (ix2 0 d) * Ideal.ofBits FTy.f32 1061997773#32 := by
  pointwise [k0_pay6, k0_pay8, pay7_at, ho]

end Cert.DiffIdeal.Hand

end
-- ==== Proof.DiffStep.lean ====
/- One grid point of the differential attention: how it changes the running maximum, sum and weighted sum of each of the pair's two
   heads, and what the last point of a row of tiles stores. -/
module

public import proofs.«01_k».proof.Proof.Gen.DiffIdeal.Value
public import proofs.«01_k».proof.Proof.DiffPay
public import Idealize.ShloMosaic.Lib.Pipeline.ValueKit
public import Idealize.ShloMosaic.Lib.Pipeline.ReadBack

@[expose] public section

set_option maxRecDepth 16384

noncomputable section

namespace Cert.DiffIdeal.Hand

open Cert.DiffIdeal Cert.DiffIdeal.Gen Idealize.ShloMosaic Idealize.ShloMosaic.TcCoe Idealize.SL.Sem Cert.Hand

section Heads

variable {n : ℕ}

/-- Where an index of head `hh`'s half of a scratch lies in the scratch. -/
theorem emb_head (hh : Fin 2) (inb) (r : Fin 512) (d : Fin n) :
    (Rect.unit (s := ⟨3, ![2, 512, n]⟩) ![(hh : ℕ), 0, 0] ![1, 512, n] inb).emb (ix3 0 r d) = ix3 hh r d := by
  refine funext fun a => Fin.ext ?_
  match a with
  | ⟨0, _⟩ => show (hh : ℕ) + 1 * 0 = hh; omega
  | ⟨1, _⟩ => show 0 + 1 * (r : ℕ) = (r : ℕ); omega
  | ⟨2, _⟩ => show 0 + 1 * (d : ℕ) = (d : ℕ); omega

/-- After both heads' stores, head 1's half holds head 1's payload. -/
theorem canon_hi (inb) (P : (⟨3, ![1, 512, n]⟩ : Shape).Idx → Elt Ideal .f32) (L) (r : Fin 512) (d : Fin n) :
    View.canon (Val := Elt Ideal) (s := ⟨3, ![2, 512, n]⟩) (e := .f32) (⟨Rect.unit ![1, 0, 0] ![1, 512, n] inb, P⟩ :: L) (ix3 1 r d) = P (ix3 0 r d) :=
  emb_head 1 inb r d ▸ View.canon_cons_emb (Val := Elt Ideal) (e := .f32) (Rect.unit (s := ⟨3, ![2, 512, n]⟩) ![1, 0, 0] ![1, 512, n] inb) P L (ix3 0 r d)

/-- After both heads' stores, head 0's half holds head 0's payload. -/
theorem canon_lo (inb) (inb') (P Q : (⟨3, ![1, 512, n]⟩ : Shape).Idx → Elt Ideal .f32) (L) (r : Fin 512) (d : Fin n) :
    View.canon (Val := Elt Ideal) (s := ⟨3, ![2, 512, n]⟩) (e := .f32)
      (⟨Rect.unit ![1, 0, 0] ![1, 512, n] inb, P⟩ :: ⟨Rect.unit ![0, 0, 0] ![1, 512, n] inb', Q⟩ :: L) (ix3 0 r d) = Q (ix3 0 r d) := by
  refine (View.canon_cons_of_not_mem (Val := Elt Ideal) (e := .f32) (⟨Rect.unit (s := ⟨3, ![2, 512, n]⟩) ![1, 0, 0] ![1, 512, n] inb, P⟩) _ ?_).trans ?_
  · intro h
    rw [Rect.mem_set_unit] at h
    exact absurd (h 0).1 (by show ¬(1 ≤ 0); omega)
  · exact emb_head 0 inb' r d ▸ View.canon_cons_emb (Val := Elt Ideal) (e := .f32) (Rect.unit (s := ⟨3, ![2, 512, n]⟩) ![0, 0, 0] ![1, 512, n] inb') Q L (ix3 0 r d)

/-- A load of head `hh`'s half. -/
theorem ld_head (hh : Fin 2) (X : (⟨3, ![2, 512, n]⟩ : Shape).Idx → Elt Ideal .f32) (inb) (r : Fin 512) (d : Fin n) :
    View.ld (Val := Elt Ideal) (e' := .f32) X (Rect.unit (s := ⟨3, ![2, 512, n]⟩) ![(hh : ℕ), 0, 0] ![1, 512, n] inb) (ix3 0 r d) = X (ix3 hh r d) :=
  congrArg X (emb_head hh inb r d)

variable {sg : RefSig} {κ : Kind} {sp : Space} (v : View sg κ sp ⟨3, ![2, 512, n]⟩ .f32)

/-- Loads of the halves after both heads' stores read the payloads. -/
theorem read_hi (inb) (P : (⟨3, ![1, 512, n]⟩ : Shape).Idx → Elt Ideal .f32) (L) (r : Fin 512) (d : Fin n) :
    v.readCov (Val := Elt Ideal) (⟨Rect.unit ![1, 0, 0] ![1, 512, n] inb, P⟩ :: L) (Rect.unit (s := ⟨3, ![2, 512, n]⟩) ![1, 0, 0] ![1, 512, n] inb).toLoadRect (ix3 0 r d) = P (ix3 0 r d) := by
  rw [View.readCov_eq_canon']
  exact (congrArg _ (emb_head 1 inb r d)).trans (canon_hi inb P L r d)
theorem read_lo (inb) (inb') (P Q : (⟨3, ![1, 512, n]⟩ : Shape).Idx → Elt Ideal .f32) (L) (r : Fin 512) (d : Fin n) :
    v.readCov (Val := Elt Ideal) (⟨Rect.unit ![1, 0, 0] ![1, 512, n] inb, P⟩ :: ⟨Rect.unit ![0, 0, 0] ![1, 512, n] inb', Q⟩ :: L)
      (Rect.unit (s := ⟨3, ![2, 512, n]⟩) ![0, 0, 0] ![1, 512, n] inb').toLoadRect (ix3 0 r d) = Q (ix3 0 r d) := by
  rw [View.readCov_eq_canon']
  exact (congrArg _ (emb_head 0 inb' r d)).trans (canon_lo inb inb' P Q L r d)

/-- A load of head 0's half of a scratch filled with `Z`, and of head 1's after head 0's store. -/
theorem fill_lo (inb) (inb') (Z : (⟨3, ![2, 512, n]⟩ : Shape).Idx → Elt Ideal .f32) (r : Fin 512) (d : Fin n) :
    v.readCov (Val := Elt Ideal) [⟨Rect.unit ![0, 0, 0] ![2, 512, n] inb', Z⟩] (Rect.unit (s := ⟨3, ![2, 512, n]⟩) ![0, 0, 0] ![1, 512, n] inb).toLoadRect (ix3 0 r d) = Z (ix3 0 r d) := by
  rw [View.readCov_eq_canon']
  refine (congrArg _ (emb_head 0 inb r d)).trans ?_
  exact congrFun (View.canon_cons_unit_lit (S := ⟨3, ![2, 512, n]⟩) inb' Z [] fun a => match a with
    | ⟨0, _⟩ => rfl
    | ⟨1, _⟩ => rfl
    | ⟨2, _⟩ => rfl) _
theorem fill_hi (inb) (inb') (inb'') (Z : (⟨3, ![2, 512, n]⟩ : Shape).Idx → Elt Ideal .f32) (Q : (⟨3, ![1, 512, n]⟩ : Shape).Idx → Elt Ideal .f32)
    (r : Fin 512) (d : Fin n) :
    v.readCov (Val := Elt Ideal) [⟨Rect.unit ![0, 0, 0] ![1, 512, n] inb'', Q⟩, ⟨Rect.unit ![0, 0, 0] ![2, 512, n] inb', Z⟩]
      (Rect.unit (s := ⟨3, ![2, 512, n]⟩) ![1, 0, 0] ![1, 512, n] inb).toLoadRect (ix3 0 r d) = Z (ix3 1 r d) := by
  rw [View.readCov_eq_canon']
  refine (congrArg _ (emb_head 1 inb r d)).trans ?_
  refine (View.canon_cons_of_not_mem (Val := Elt Ideal) (e := .f32) (⟨Rect.unit (s := ⟨3, ![2, 512, n]⟩) ![0, 0, 0] ![1, 512, n] inb'', Q⟩) _ ?_).trans ?_
  · intro h
    rw [Rect.mem_set_unit] at h
    exact absurd (h 0).2 (by show ¬(1 < 0 + 1); omega)
  · exact congrFun (View.canon_cons_unit_lit (S := ⟨3, ![2, 512, n]⟩) inb' Z [] fun a => match a with
    | ⟨0, _⟩ => rfl
    | ⟨1, _⟩ => rfl
    | ⟨2, _⟩ => rfl) _

end Heads

variable (m : (ℓ : Loc nD τ sig) → Buf (Elt Ideal) ℓ)

/-- The three scratches after grid point `n`: maxima, sums, weighted sums. -/
def sM (c : Dev nD) (n : ℕ) (h : n < cfg0.N) : FVec Ideal S2x512x1 .f32 := (outsAt0 m c n h).2.1
def sL (c : Dev nD) (n : ℕ) (h : n < cfg0.N) : FVec Ideal S2x512x1 .f32 := (outsAt0 m c n h).2.2.1
def sA (c : Dev nD) (n : ℕ) (h : n < cfg0.N) : FVec Ideal S2x512x128 .f32 := (outsAt0 m c n h).2.2.2

/-- Grid point `t`'s scores of query row `r` in head `hh`, and its values in lane `d`. -/
def tS (c : Dev nD) (t : Fin cfg0.N) (hh : Fin 2) (r : Fin 512) : Fin 768 → EReal := sc hh (X0_0 m c t) (iblk m c 1 t) r
def tV (c : Dev nD) (t : Fin cfg0.N) (d : Fin 128) : Fin 768 → EReal := fun x => (show FVec Ideal S1x768x128 .bf16 from iblk m c 2 t) (ix3 0 x d)

/-- The first point of a row of key tiles starts both heads afresh. -/
theorem m_first (c : Dev nD) (t : Fin cfg0.N) (h : t.val % 11 = 0) (hh : Fin 2) (r : Fin 512) :
    sM m c t.val t.isLt (ix3 hh r 0) = newM (Ideal.ofBits FTy.f32 4048155338#32) (tS m c t hh r) := by
  unfold sM tS
  rw [outsAt0_A m c t h (by omega)]
  frame_out
  match hh with
  | 0 =>
    refine (canon_lo _ _ _ _ _ _ _).trans ((m0_at _ _ _ _ _).trans ?_)
    rw [fill_lo, pay9_at]
  | 1 =>
    refine (canon_hi _ _ _ _ _).trans ((m1_at _ _ _ _ _).trans ?_)
    rw [fill_hi, pay9_at]

theorem l_first (c : Dev nD) (t : Fin cfg0.N) (h : t.val % 11 = 0) (hh : Fin 2) (r : Fin 512) :
    sL m c t.val t.isLt (ix3 hh r 0) = newL (Ideal.ofBits FTy.f32 4048155338#32) 0 (tS m c t hh r) := by
  unfold sL tS
  rw [outsAt0_A m c t h (by omega)]
  frame_out
  match hh with
  | 0 =>
    refine (canon_lo _ _ _ _ _ _ _).trans ((l0_at _ _ _ _ _ _).trans ?_)
    rw [fill_lo, fill_lo, pay9_at, pay10_at]
  | 1 =>
    refine (canon_hi _ _ _ _ _).trans ((l1_at _ _ _ _ _ _).trans ?_)
    rw [fill_hi, fill_hi, pay9_at, pay10_at]

theorem a_first (c : Dev nD) (t : Fin cfg0.N) (h : t.val % 11 = 0) (hh : Fin 2) (r : Fin 512) (d : Fin 128) :
    sA m c t.val t.isLt (ix3 hh r d) = newA (Ideal.ofBits FTy.f32 4048155338#32) 0 (tS m c t hh r) (tV m c t d) := by
  unfold sA tS tV
  rw [outsAt0_A m c t h (by omega)]
  frame_out
  match hh with
  | 0 =>
    refine (canon_lo _ _ _ _ _ _ _).trans ((a0_at _ _ _ _ _ _ _ _).trans ?_)
    rw [fill_lo, fill_lo, pay9_at, pay11_at]
  | 1 =>
    refine (canon_hi _ _ _ _ _).trans ((a1_at _ _ _ _ _ _ _ _).trans ?_)
    rw [fill_hi, fill_hi, pay9_at, pay11_at]

/-- A later point continues both heads from the point before. -/
theorem m_step (c : Dev nD) (t : Fin cfg0.N) (h : ¬t.val % 11 = 0) (hh : Fin 2) (r : Fin 512) :
    sM m c t.val t.isLt (ix3 hh r 0)
      = newM (sM m c (t.val - 1) (Nat.lt_of_le_of_lt (Nat.sub_le _ _) t.isLt) (ix3 hh r 0)) (tS m c t hh r) := by
  unfold sM tS
  by_cases h1 : t.val % 11 = 10
  all_goals
    first | rw [outsAt0_C m c t h h1] | rw [outsAt0_B m c t h h1]
    frame_out
    match hh with
    | 0 =>
      refine (canon_lo _ _ _ _ _ _ _).trans ((m0_at _ _ _ _ _).trans ?_)
      rw [read_unread_whole]
      exact congrArg₂ newM (ld_head 0 _ _ _ _) rfl
    | 1 =>
      refine (canon_hi _ _ _ _ _).trans ((m1_at _ _ _ _ _).trans ?_)
      rw [read_unread_whole]
      exact congrArg₂ newM (ld_head 1 _ _ _ _) rfl

theorem l_step (c : Dev nD) (t : Fin cfg0.N) (h : ¬t.val % 11 = 0) (hh : Fin 2) (r : Fin 512) :
    sL m c t.val t.isLt (ix3 hh r 0)
      = newL (sM m c (t.val - 1) (Nat.lt_of_le_of_lt (Nat.sub_le _ _) t.isLt) (ix3 hh r 0))
          (sL m c (t.val - 1) (Nat.lt_of_le_of_lt (Nat.sub_le _ _) t.isLt) (ix3 hh r 0)) (tS m c t hh r) := by
  unfold sM sL tS
  by_cases h1 : t.val % 11 = 10
  all_goals
    first | rw [outsAt0_C m c t h h1] | rw [outsAt0_B m c t h h1]
    frame_out
    match hh with
    | 0 =>
      refine (canon_lo _ _ _ _ _ _ _).trans ((l0_at _ _ _ _ _ _).trans ?_)
      rw [read_unread_whole, read_unread_whole]
      exact congrFun (congrArg₂ newL (ld_head 0 _ _ _ _) (ld_head 0 _ _ _ _)) _
    | 1 =>
      refine (canon_hi _ _ _ _ _).trans ((l1_at _ _ _ _ _ _).trans ?_)
      rw [read_unread_whole, read_unread_whole]
      exact congrFun (congrArg₂ newL (ld_head 1 _ _ _ _) (ld_head 1 _ _ _ _)) _

theorem a_step (c : Dev nD) (t : Fin cfg0.N) (h : ¬t.val % 11 = 0) (hh : Fin 2) (r : Fin 512) (d : Fin 128) :
    sA m c t.val t.isLt (ix3 hh r d)
      = newA (sM m c (t.val - 1) (Nat.lt_of_le_of_lt (Nat.sub_le _ _) t.isLt) (ix3 hh r 0))
          (sA m c (t.val - 1) (Nat.lt_of_le_of_lt (Nat.sub_le _ _) t.isLt) (ix3 hh r d)) (tS m c t hh r) (tV m c t d) := by
  unfold sM sA tS tV
  by_cases h1 : t.val % 11 = 10
  all_goals
    first | rw [outsAt0_C m c t h h1] | rw [outsAt0_B m c t h h1]
    frame_out
    match hh with
    | 0 =>
      refine (canon_lo _ _ _ _ _ _ _).trans ((a0_at _ _ _ _ _ _ _ _).trans ?_)
      rw [read_unread_whole, read_unread_whole]
      exact congrFun (congrFun (congrArg₂ newA (ld_head 0 _ _ _ _) (ld_head 0 _ _ _ _)) _) _
    | 1 =>
      refine (canon_hi _ _ _ _ _).trans ((a1_at _ _ _ _ _ _ _ _).trans ?_)
      rw [read_unread_whole, read_unread_whole]
      exact congrFun (congrFun (congrArg₂ newA (ld_head 1 _ _ _ _) (ld_head 1 _ _ _ _)) _) _

/-- What the last point of a row of key tiles stores, from the scratches it leaves. -/
theorem last_store (c : Dev nD) (t : Fin cfg0.N) (h : t.val % 11 = 10) (b : Fin 1) (r : Fin 512) (d : Fin 128) (o : Fin 128 → EReal)
    (ho : ∀ x, Ideal.div (sA m c t.val t.isLt (ix3 0 r x)) (sL m c t.val t.isLt (ix3 0 r 0))
      - lam (iblk m c 3 t) * Ideal.div (sA m c t.val t.isLt (ix3 1 r x)) (sL m c t.val t.isLt (ix3 1 r 0)) = o x) :
    (outsAt0 m c t.val t.isLt).1 (ix3 b r d)
      = o d * Ideal.rsqrt (Ideal.div (∑ x, o x * o x) (Ideal.ofBits FTy.f32 1124073472#32) + Ideal.ofBits FTy.f32 897988541#32)
          * (show FVec Ideal S1x128 .f32 from iblk m c 4 t) (ix2 0 d) * Ideal.ofBits FTy.f32 1061997773#32 := by
  have hA : ∀ hh x, sA m c t.val t.isLt (ix3 hh r x) = _ := fun hh x => a_step m c t (by omega) hh r x
  have hL : ∀ hh, sL m c t.val t.isLt (ix3 hh r 0) = _ := fun hh => l_step m c t (by omega) hh r
  simp only [hA, hL] at ho
  rw [outsAt0_C m c t (by omega) h]
  frame_out
  refine out_at b r d _ _ _ _ _ _ o fun x => Eq.trans ?_ (ho x)
  rw [read_lo, read_lo, read_hi, read_hi, a0_at, l0_at, a1_at, l1_at]
  simp only [read_unread_whole]
  exact congrArg₂ (fun y z : EReal => y - lam (iblk m c 3 t) * z)
    (congrArg₂ Ideal.div (congrFun (congrFun (congrArg₂ newA (ld_head 0 _ _ _ _) (ld_head 0 _ _ _ _)) _) _)
      (congrFun (congrArg₂ newL (ld_head 0 _ _ _ _) (ld_head 0 _ _ _ _)) _))
    (congrArg₂ Ideal.div (congrFun (congrFun (congrArg₂ newA (ld_head 1 _ _ _ _) (ld_head 1 _ _ _ _)) _) _)
      (congrFun (congrArg₂ newL (ld_head 1 _ _ _ _) (ld_head 1 _ _ _ _)) _))

end Cert.DiffIdeal.Hand

end
-- ==== Proof.DiffRefValue.lean ====
/- The differential attention's reference, read at an index: for real queries, keys and values the softmax-weighted mean of the values in
   each of the pair's two heads, their difference under lambda, and the normalised result. -/
module

public import proofs.«01_k».proof.Proof.Gen.DiffRefIdeal.Read
public import Idealize.ShloMosaic.Lib.Pipeline.ValueKit
public import proofs.«01_k».proof.Proof.Softmax

@[expose] public section

set_option maxRecDepth 16384

noncomputable section

namespace Cert.DiffRefIdeal.Hand

open Cert.DiffRefIdeal Cert.DiffRefIdeal.Gen Cert.DiffRefIdeal.Read Idealize.ShloMosaic Idealize.ShloMosaic.TcCoe Idealize.SL.Sem Cert.Hand

/-- The score of query row `r` against key row `j` in head `h`. -/
def scr (q k : FVec Ideal S2x8448x768 .bf16) (b : Fin 2) (h : Fin 8) (r : Fin 8192) (j : Fin 8448) : EReal :=
  ∑ x : Fin 64, q (ix3 b (⟨(r : ℕ), by omega⟩ : Fin 8448) (⟨256 + ((h : ℕ) * 64 + x), by omega⟩ : Fin 768))
    * k (ix3 b j (⟨256 + ((h : ℕ) * 64 + x), by omega⟩ : Fin 768))

theorem sc_at (q k : FVec Ideal S2x8448x768 .bf16) (b : Fin 2) (h : Fin 8) (r : Fin 8192) (j : Fin 8448) :
    val_main_v25 (F := Ideal) q k (ix4 b h r j) = scr q k b h r j := by
  pointwise [val_main_v25, val_main_v5, val_main_v4, val_main_v3, val_main_v2, val_main_v1, val_main_v0]
  rfl

/-- A row of scores' greatest. -/
theorem max_at (q k : FVec Ideal S2x8448x768 .bf16) (b : Fin 2) (h : Fin 8) (r : Fin 8192) :
    val_main_v26 (F := Ideal) q k (ix3 b h r)
      = Finset.fold max (Ideal.ofBits FTy.f32 4286578688#32) (fun x : Fin 8448 => val_main_v25 (F := Ideal) q k (ix4 b h r x)) Finset.univ := by
  unfold val_main_v26
  generalize val_main_v25 (F := Ideal) q k = y
  pointwise [val_main_cst_2]

/-- A score's exponential, under its row's greatest. -/
theorem e_at (q k : FVec Ideal S2x8448x768 .bf16) (b : Fin 2) (h : Fin 8) (r : Fin 8192) (j : Fin 8448) :
    val_main_v32 (F := Ideal) q k (ix4 b h r j)
      = Ideal.exp (val_main_v25 (F := Ideal) q k (ix4 b h r j)
          - max (Ideal.ofBits FTy.f32 4286578688#32) (val_main_v26 (F := Ideal) q k (ix3 b h r))) := by
  rw [val_main_v32_apply, val_main_v31_apply, val_main_v30_apply, val_main_v29_apply, val_main_v28_apply, val_main_v27_apply]
  generalize val_main_v25 (F := Ideal) q k = y
  generalize val_main_v26 (F := Ideal) q k = z
  refine congrArg (fun w : EReal => Ideal.exp (y (ix4 b h r j) - w)) (congrArg₂ max ?_ (congrArg z ?_))
  · pointwise [val_main_cst_3]
  · refine funext fun a => ?_
    match a with
    | ⟨0, _⟩ => rfl
    | ⟨1, _⟩ => rfl
    | ⟨2, _⟩ => rfl

/-- A row's sum of exponentials. -/

theorem z_at (q k : FVec Ideal S2x8448x768 .bf16) (b : Fin 2) (h : Fin 8) (r : Fin 8192) :
    val_main_v33 (F := Ideal) q k (ix3 b h r) = ∑ x : Fin 8448, val_main_v32 (F := Ideal) q k (ix4 b h r x) := by
  rw [val_main_v33_apply]
  generalize val_main_v32 (F := Ideal) q k = y
  have hz : (val_main_cst_4 (F := Ideal)) (Shape.Idx.first h_S_) = (0 : EReal) := by pointwise [val_main_cst_4]
  rw [hz, zero_add]
  refine Finset.sum_congr rfl fun x _ => congrArg y ?_
  refine funext fun a => ?_
  match a with
  | ⟨0, _⟩ => rfl
  | ⟨1, _⟩ => rfl
  | ⟨2, _⟩ => rfl
  | ⟨3, _⟩ => rfl

/-- A key's weight. -/

theorem p_at (q k : FVec Ideal S2x8448x768 .bf16) (b : Fin 2) (h : Fin 8) (r : Fin 8192) (j : Fin 8448) :
    val_main_v36 (F := Ideal) q k (ix4 b h r j)
      = Ideal.div (val_main_v32 (F := Ideal) q k (ix4 b h r j)) (val_main_v33 (F := Ideal) q k (ix3 b h r)) := by
  rw [val_main_v36_apply, val_main_v35_apply, val_main_v34_apply]
  generalize val_main_v32 (F := Ideal) q k = y
  generalize val_main_v33 (F := Ideal) q k = z
  refine congrArg (fun w : EReal => Ideal.div (y (ix4 b h r j)) w) (congrArg z ?_)
  refine funext fun a => ?_
  match a with
  | ⟨0, _⟩ => rfl
  | ⟨1, _⟩ => rfl
  | ⟨2, _⟩ => rfl

/-- The values by head. -/
theorem v_at (v : FVec Ideal S2x8448x768 .bf16) (b : Fin 2) (h : Fin 4) (j : Fin 8448) (d : Fin 128) :
    val_main_v8 (F := Ideal) v (ix4 b j h d) = v (ix3 b j (⟨256 + ((h : ℕ) * 128 + d), by omega⟩ : Fin 768)) := by
  pointwise [val_main_v8, val_main_v7, val_main_v6]

/-- Where the weighted sum over the keys reads the values and the weights. -/
theorem lidx45 (b : Fin 2) (h : Fin 4) (r : Fin 8192) (d : Fin 128) (x : Fin 8448) : lidx_main_v45 (ix4 b h d r) x = ix4 b x h d :=
  funext fun a => by
    match a with
    | ⟨0, _⟩ => rfl
    | ⟨1, _⟩ => rfl
    | ⟨2, _⟩ => rfl
    | ⟨3, _⟩ => rfl
theorem ridx45 (b : Fin 2) (h : Fin 4) (r : Fin 8192) (d : Fin 128) (x : Fin 8448) : ridx_main_v45 (ix4 b h d r) x = ix4 b h r x :=
  funext fun a => by
    match a with
    | ⟨0, _⟩ => rfl
    | ⟨1, _⟩ => rfl
    | ⟨2, _⟩ => rfl
    | ⟨3, _⟩ => rfl

/-- The weighted sum of the values under the difference of the pair's weights. -/
theorem o_at (q k v : FVec Ideal S2x8448x768 .bf16) (lp : FVec Ideal S4x64 .f32) (b : Fin 2) (h : Fin 4) (r : Fin 8192) (d : Fin 128) :
    val_main_v45 (F := Ideal) q k v lp (ix4 b h d r)
      = ∑ x : Fin 8448, v (ix3 b x (⟨256 + ((h : ℕ) * 128 + d), by omega⟩ : Fin 768)) * val_main_v44 (F := Ideal) q k lp (ix4 b h r x) := by
  rw [val_main_v45_apply]
  exact Finset.sum_congr rfl fun x _ => congrArg₂ (· * ·) ((congrArg _ (lidx45 b h r d x)).trans (v_at v b h x d)) (congrArg _ (ridx45 b h r d x))

/-- The coordinates of a flat index over four axes of extents 2, 4, 8192, 8448, read back. -/
theorem flat4 (b h r j : ℕ) (hb : b < 2) (hh : h < 4) (hr : r < 8192) (hj : j < 8448) :
    (((b * 4 + h) * 8192 + r) * 8448 + j) / 276824064 = b ∧ (((b * 4 + h) * 8192 + r) * 8448 + j) / 69206016 % 4 = h
      ∧ (((b * 4 + h) * 8192 + r) * 8448 + j) / 8448 % 8192 = r ∧ (((b * 4 + h) * 8192 + r) * 8448 + j) % 8448 = j := by
  refine ⟨?_, ?_, ?_, ?_⟩ <;> omega

/-- The same with the head's half `u` as an axis of its own, against extents 2, 8, 8192, 8448. -/
theorem flat5 (b h u r j : ℕ) (hb : b < 2) (hh : h < 4) (hu : u < 2) (hr : r < 8192) (hj : j < 8448) :
    ((((b * 4 + h) * 2 + u) * 8192 + r) * 8448 + j) / 553648128 = b ∧ ((((b * 4 + h) * 2 + u) * 8192 + r) * 8448 + j) / 69206016 % 8 = h * 2 + u
      ∧ ((((b * 4 + h) * 2 + u) * 8192 + r) * 8448 + j) / 8448 % 8192 = r ∧ ((((b * 4 + h) * 2 + u) * 8192 + r) * 8448 + j) % 8448 = j := by
  refine ⟨?_, ?_, ?_, ?_⟩ <;> omega

/-- The reshapes and slices between the heads and their pairs, read at an index. -/

theorem idx39 (b : Fin 2) (h : Fin 4) (r : Fin 8192) (j : Fin 8448) : idx_main_v39 (ix4 b h r j) = ix5 b h 0 r j := by
  have f := flat4 b h r j b.isLt h.isLt r.isLt j.isLt
  refine funext fun a => ?_
  match a with
  | ⟨0, _⟩ => exact Fin.ext f.1
  | ⟨1, _⟩ => exact Fin.ext f.2.1
  | ⟨2, _⟩ => rfl
  | ⟨3, _⟩ => exact Fin.ext f.2.2.1
  | ⟨4, _⟩ => exact Fin.ext f.2.2.2

theorem idx41 (b : Fin 2) (h : Fin 4) (r : Fin 8192) (j : Fin 8448) : idx_main_v41 (ix4 b h r j) = ix5 b h 0 r j := idx39 b h r j

theorem idx38 (b : Fin 2) (h : Fin 4) (r : Fin 8192) (j : Fin 8448) : idx_main_v38 (ix5 b h 0 r j) = ix5 b h 0 r j := by
  refine funext fun a => ?_
  match a with
  | ⟨0, _⟩ => rfl
  | ⟨1, _⟩ => rfl
  | ⟨2, _⟩ => rfl
  | ⟨3, _⟩ => rfl
  | ⟨4, _⟩ => rfl

theorem idx40 (b : Fin 2) (h : Fin 4) (r : Fin 8192) (j : Fin 8448) : idx_main_v40 (ix5 b h 0 r j) = ix5 b h 1 r j := by
  refine funext fun a => ?_
  match a with
  | ⟨0, _⟩ => rfl
  | ⟨1, _⟩ => rfl
  | ⟨2, _⟩ => rfl
  | ⟨3, _⟩ => rfl
  | ⟨4, _⟩ => rfl

theorem idx37 (b : Fin 2) (h : Fin 4) (u : Fin 2) (r : Fin 8192) (j : Fin 8448) :
    idx_main_v37 (ix5 b h u r j) = ix4 b (⟨(h : ℕ) * 2 + u, by omega⟩ : Fin 8) r j := by
  have f := flat5 b h u r j b.isLt h.isLt u.isLt r.isLt j.isLt
  refine funext fun a => ?_
  match a with
  | ⟨0, _⟩ => exact Fin.ext f.1
  | ⟨1, _⟩ => exact Fin.ext f.2.1
  | ⟨2, _⟩ => exact Fin.ext f.2.2.1
  | ⟨3, _⟩ => exact Fin.ext f.2.2.2

/-- The weights of the pair's first head and of its second. -/
theorem p0_at (q k : FVec Ideal S2x8448x768 .bf16) (b : Fin 2) (h : Fin 4) (r : Fin 8192) (j : Fin 8448) :
    val_main_v39 (F := Ideal) q k (ix4 b h r j)
      = val_main_v36 (F := Ideal) q k (ix4 b (⟨(h : ℕ) * 2 + (0 : Fin 2), by show (h : ℕ) * 2 + 0 < 8; omega⟩ : Fin 8) r j) := by
  rw [val_main_v39_apply, val_main_v38_apply, val_main_v37_apply, idx39, idx38, idx37]
theorem p1_at (q k : FVec Ideal S2x8448x768 .bf16) (b : Fin 2) (h : Fin 4) (r : Fin 8192) (j : Fin 8448) :
    val_main_v41 (F := Ideal) q k (ix4 b h r j)
      = val_main_v36 (F := Ideal) q k (ix4 b (⟨(h : ℕ) * 2 + (1 : Fin 2), by show (h : ℕ) * 2 + 1 < 8; omega⟩ : Fin 8) r j) := by
  rw [val_main_v41_apply, val_main_v40_apply, val_main_v37_apply, idx41, idx40, idx37]

/-- The difference of the pair's weights. -/
theorem d_at (q k : FVec Ideal S2x8448x768 .bf16) (lp : FVec Ideal S4x64 .f32) (b : Fin 2) (h : Fin 4) (r : Fin 8192) (j : Fin 8448) :
    val_main_v44 (F := Ideal) q k lp (ix4 b h r j)
      = val_main_v36 (F := Ideal) q k (ix4 b (⟨(h : ℕ) * 2 + (0 : Fin 2), by show (h : ℕ) * 2 + 0 < 8; omega⟩ : Fin 8) r j)
          - val_main_v24 (F := Ideal) lp ix0 * val_main_v36 (F := Ideal) q k (ix4 b (⟨(h : ℕ) * 2 + (1 : Fin 2), by show (h : ℕ) * 2 + 1 < 8; omega⟩ : Fin 8) r j) := by
  rw [val_main_v44_apply, val_main_v43_apply, val_main_v42_apply, p0_at, p1_at]
  generalize val_main_v36 (F := Ideal) q k = y
  generalize val_main_v24 (F := Ideal) lp = z
  exact congrArg (fun w : EReal => y _ - w * y _) (congrArg z (funext fun a => a.elim0))

/-- The pair's lambda, from the four parameter rows and the layer's constant. -/
def lamOf (w : EReal) (lp : FVec Ideal S4x64 .f32) : EReal :=
  Ideal.exp (∑ x, lp (ix2 0 x) * lp (ix2 1 x)) - Ideal.exp (∑ x, lp (ix2 2 x) * lp (ix2 3 x)) + w

/-- The first layer's lambda. -/
def lam (lp : FVec Ideal S4x64 .f32) : EReal := lamOf (Ideal.ofBits FTy.f32 1045220557#32) lp

theorem lam_at (lp : FVec Ideal S4x64 .f32) : val_main_v24 (F := Ideal) lp ix0 = lam lp := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_cst, val_main_cst_0, val_main_cst_1, lam, lamOf]

/-- Lambda is real when the parameters are. -/
theorem lamOf_coe (w : ℝ) (lp : FVec Ideal S4x64 .f32) (h : ∀ i j, lp (ix2 i j) ≠ ⊥ ∧ lp (ix2 i j) ≠ ⊤) :
    lamOf w lp = (((lamOf w lp).toReal : ℝ) : EReal) := by
  have hs : ∀ i j : Fin 4, ∃ x : ℝ, ∑ y, lp (ix2 i y) * lp (ix2 j y) = (x : EReal) := fun i j =>
    ⟨∑ y, (lp (ix2 i y)).toReal * (lp (ix2 j y)).toReal, by
      rw [← coe_sum]; exact Finset.sum_congr rfl fun y _ => by rw [EReal.coe_mul, ← eq_coe (h i y), ← eq_coe (h j y)]⟩
  obtain ⟨x, hx⟩ := hs 0 1
  obtain ⟨y, hy⟩ := hs 2 3
  rw [lamOf, hx, hy, exp_coe, exp_coe, ← EReal.coe_sub, ← EReal.coe_add, EReal.toReal_coe]

theorem lam_coe (lp : FVec Ideal S4x64 .f32) (h : ∀ i j, lp (ix2 i j) ≠ ⊥ ∧ lp (ix2 i j) ≠ ⊤) : lam lp = (((lam lp).toReal : ℝ) : EReal) := by
  have hc : Ideal.ofBits FTy.f32 1045220557#32 = ((13421773 / 2 ^ 26 : ℝ) : EReal) := by
    simp [Ideal.ofBits, Ideal.ieee, -EReal.coe_mul]
    norm_num
  rw [lam, hc]
  exact lamOf_coe _ lp h

/-- The real score and the real value of key `κ`. -/
def rs (q k : FVec Ideal S2x8448x768 .bf16) (b : Fin 2) (h : Fin 8) (r : Fin 8192) (κ : ℕ) : ℝ :=
  if hκ : κ < 8448 then (scr q k b h r ⟨κ, hκ⟩).toReal else 0
def rv (v : FVec Ideal S2x8448x768 .bf16) (b : Fin 2) (h : Fin 4) (d : Fin 128) (κ : ℕ) : ℝ :=
  if hκ : κ < 8448 then (v (ix3 b (⟨κ, hκ⟩ : Fin 8448) (⟨256 + ((h : ℕ) * 128 + d), by omega⟩ : Fin 768))).toReal else 0

/-- The columns the attention reads are real, in the first `n` rows. -/
def Real3 (n : ℕ) (x : FVec Ideal S2x8448x768 .bf16) : Prop :=
  ∀ (b : Fin 2) (r : Fin 8448) (c : Fin 512), (r : ℕ) < n → x (ix3 b r (⟨256 + (c : ℕ), by omega⟩ : Fin 768)) ≠ ⊥ ∧ x (ix3 b r (⟨256 + (c : ℕ), by omega⟩ : Fin 768)) ≠ ⊤

theorem scr_coe (q k : FVec Ideal S2x8448x768 .bf16) (hq : Real3 8192 q) (hk : Real3 8448 k) (b : Fin 2) (h : Fin 8) (r : Fin 8192) (j : Fin 8448) :
    scr q k b h r j = ((rs q k b h r j : ℝ) : EReal) := by
  have e : ∃ x : ℝ, scr q k b h r j = (x : EReal) :=
    ⟨∑ x : Fin 64, (q (ix3 b (⟨(r : ℕ), by omega⟩ : Fin 8448) (⟨256 + ((h : ℕ) * 64 + x), by omega⟩ : Fin 768))).toReal
        * (k (ix3 b j (⟨256 + ((h : ℕ) * 64 + x), by omega⟩ : Fin 768))).toReal, by
      rw [← coe_sum]
      exact Finset.sum_congr rfl fun x _ => by
        rw [EReal.coe_mul, ← eq_coe (hq b (⟨(r : ℕ), by omega⟩ : Fin 8448) (⟨(h : ℕ) * 64 + x, by omega⟩ : Fin 512) r.isLt),
          ← eq_coe (hk b j (⟨(h : ℕ) * 64 + x, by omega⟩ : Fin 512) j.isLt)]⟩
  obtain ⟨x, hx⟩ := e
  rw [rs, dif_pos j.isLt, hx, EReal.toReal_coe]

theorem rv_coe (v : FVec Ideal S2x8448x768 .bf16) (hv : Real3 8448 v) (b : Fin 2) (h : Fin 4) (d : Fin 128) (j : Fin 8448) :
    v (ix3 b j (⟨256 + ((h : ℕ) * 128 + d), by omega⟩ : Fin 768)) = ((rv v b h d j : ℝ) : EReal) := by
  rw [rv, dif_pos j.isLt]
  exact eq_coe (hv b j (⟨(h : ℕ) * 128 + d, by omega⟩ : Fin 512) j.isLt)

/-- A key's weight is the real softmax weight. -/
theorem w_at (q k : FVec Ideal S2x8448x768 .bf16) (hq : Real3 8192 q) (hk : Real3 8448 k) (b : Fin 2) (h : Fin 8) (r : Fin 8192) (j : Fin 8448) :
    val_main_v36 (F := Ideal) q k (ix4 b h r j)
      = ((Real.exp (rs q k b h r j) / ∑ κ ∈ Finset.range 8448, Real.exp (rs q k b h r κ) : ℝ) : EReal) := by
  have key := soft_weight (rs q k b h r) 8447 (fun x => scr q k b h r x) (fun x => scr_coe q k hq hk b h r x) j
  rw [p_at, z_at]
  simp only [e_at, max_at, sc_at]
  exact key

/-- The values' sum under the difference of the pair's weights is the first head's mean less `l` times the second's. -/
theorem mean_of (q k v : FVec Ideal S2x8448x768 .bf16) (l : EReal) (hq : Real3 8192 q) (hk : Real3 8448 k) (hv : Real3 8448 v)
    (hl : l = ((l.toReal : ℝ) : EReal)) (b : Fin 2) (h : Fin 4) (r : Fin 8192) (d : Fin 128) :
    ∑ x : Fin 8448, v (ix3 b x (⟨256 + ((h : ℕ) * 128 + d), by omega⟩ : Fin 768))
        * (val_main_v36 (F := Ideal) q k (ix4 b (⟨(h : ℕ) * 2 + (0 : Fin 2), by show (h : ℕ) * 2 + 0 < 8; omega⟩ : Fin 8) r x)
          - l * val_main_v36 (F := Ideal) q k (ix4 b (⟨(h : ℕ) * 2 + (1 : Fin 2), by show (h : ℕ) * 2 + 1 < 8; omega⟩ : Fin 8) r x))
      = ((soft (rs q k b (⟨(h : ℕ) * 2 + (0 : Fin 2), by show (h : ℕ) * 2 + 0 < 8; omega⟩ : Fin 8) r) (rv v b h d) 8448 : ℝ) : EReal)
        - l * ((soft (rs q k b (⟨(h : ℕ) * 2 + (1 : Fin 2), by show (h : ℕ) * 2 + 1 < 8; omega⟩ : Fin 8) r) (rv v b h d) 8448 : ℝ) : EReal) := by
  have key := soft_diff (rs q k b (⟨(h : ℕ) * 2 + (0 : Fin 2), by show (h : ℕ) * 2 + 0 < 8; omega⟩ : Fin 8) r)
    (rs q k b (⟨(h : ℕ) * 2 + (1 : Fin 2), by show (h : ℕ) * 2 + 1 < 8; omega⟩ : Fin 8) r) (rv v b h d) l.toReal 8447
  rw [← hl] at key
  refine Eq.trans ?_ key
  refine Finset.sum_congr rfl fun x _ => ?_
  rw [w_at q k hq hk, w_at q k hq hk, rv_coe v hv]

/-- The pair's combined mean of the values: the first head's less lambda times the second's. -/
theorem mean_at (q k v : FVec Ideal S2x8448x768 .bf16) (lp : FVec Ideal S4x64 .f32) (hq : Real3 8192 q) (hk : Real3 8448 k) (hv : Real3 8448 v)
    (hl : ∀ i j, lp (ix2 i j) ≠ ⊥ ∧ lp (ix2 i j) ≠ ⊤) (b : Fin 2) (h : Fin 4) (r : Fin 8192) (d : Fin 128) :
    val_main_v45 (F := Ideal) q k v lp (ix4 b h d r)
      = ((soft (rs q k b (⟨(h : ℕ) * 2 + (0 : Fin 2), by show (h : ℕ) * 2 + 0 < 8; omega⟩ : Fin 8) r) (rv v b h d) 8448 : ℝ) : EReal)
        - lam lp * ((soft (rs q k b (⟨(h : ℕ) * 2 + (1 : Fin 2), by show (h : ℕ) * 2 + 1 < 8; omega⟩ : Fin 8) r) (rv v b h d) 8448 : ℝ) : EReal) := by
  refine Eq.trans ?_ (mean_of q k v (lam lp) hq hk hv (lam_coe lp hl) b h r d)
  rw [o_at]
  simp only [d_at, lam_at]

/-- The result: the combined mean over its root mean square, scaled. -/
theorem ref_at (q k v : FVec Ideal S2x8448x768 .bf16) (lp : FVec Ideal S4x64 .f32) (gn : FVec Ideal S1x128 .f32) (b : Fin 2) (r : Fin 8192) (c : Fin 512) :
    val_main_v64 (F := Ideal) q k v lp gn (ix3 b r c)
      = val_main_v45 (F := Ideal) q k v lp (ix4 b (⟨(c : ℕ) / 128, by omega⟩ : Fin 4) (⟨(c : ℕ) % 128, by omega⟩ : Fin 128) r)
        * Ideal.rsqrt (Ideal.div (∑ x : Fin 128, val_main_v45 (F := Ideal) q k v lp (ix4 b (⟨(c : ℕ) / 128, by omega⟩ : Fin 4) x r)
            * val_main_v45 (F := Ideal) q k v lp (ix4 b (⟨(c : ℕ) / 128, by omega⟩ : Fin 4) x r)) (Ideal.ofBits FTy.f32 1124073472#32)
            + Ideal.ofBits FTy.f32 897988541#32)
        * gn (ix2 0 (⟨(c : ℕ) % 128, by omega⟩ : Fin 128)) * Ideal.ofBits FTy.f32 1061997773#32 := by
  pointwise [val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47, val_main_v46,
    val_main_cst_5, val_main_cst_6, val_main_cst_7, val_main_cst_8]

end Cert.DiffRefIdeal.Hand

end
-- ==== Proof.Gate.lean ====
/- Facts about sums of extended reals that the expert call's proof needs: a finite nonnegative factor goes under a sum, and a sum
   that keeps one lane is that lane. -/
module

public import Idealize.ShloMosaic.Lib.Pipeline.ValueKit
public import Idealize.ShloMosaic.Lib.Pointwise

@[expose] public section

noncomputable section

namespace Cert.Hand

open Idealize.ShloMosaic

/-- A factor `0 ≤ g < ∞` distributes over a finite sum of extended reals, whatever the terms. -/
theorem gate_mul_sum {ι : Type} (s : Finset ι) {g : EReal} (h0 : 0 ≤ g) (h1 : g ≠ ⊤) (f : ι → EReal) :
    g * ∑ x ∈ s, f x = ∑ x ∈ s, g * f x := by
  classical
  induction s using Finset.induction_on with
  | empty => simp
  | insert a s ha ih => rw [Finset.sum_insert ha, Finset.sum_insert ha, EReal.left_distrib_of_nonneg_of_ne_top h0 h1, ih]

/-- A gate in the middle of a product comes to the front. -/
theorem mul_gate (a g w : EReal) : a * g * w = g * (a * w) := by rw [mul_comm a g, mul_assoc]

/-- Two comparisons that are both one: the compared facts hold. -/
theorem and_bits {p q : Prop} [Decidable p] [Decidable q] (h : IntOp.andi (BitVec.ofBool (decide p)) (BitVec.ofBool (decide q)) = 1#1) :
    p ∧ q := by
  by_cases hp : p <;> by_cases hq : q <;> simp_all [IntOp.andi]

/-- A sum over the lanes that keeps lane `e` and puts zero elsewhere is lane `e`. -/
theorem lane_sum {n : ℕ} (g : Fin n → EReal) (e : Fin n) (hn : n ≤ 2 ^ 32) :
    (∑ x : Fin n, Scalar.select (IntOp.cmpi CmpIPredicate.eq (BitVec.ofNat 32 (x : ℕ)) (BitVec.ofNat 32 (e : ℕ))) (g x) 0) = g e := by
  rw [Finset.sum_eq_single e]
  · exact Scalar.select_of_eq_one (by simp [IntOp.cmpi]) _ _
  · intro b _ hb
    refine Scalar.select_of_eq_zero ?_ _ _
    have hv : (b : ℕ) ≠ e := fun h => hb (Fin.ext h)
    have h1 := b.isLt
    have h2 := e.isLt
    have hne : BitVec.ofNat 32 (b : ℕ) ≠ BitVec.ofNat 32 (e : ℕ) := fun h => hv (by
      have := congrArg BitVec.toNat h
      rwa [BitVec.toNat_ofNat, BitVec.toNat_ofNat, Nat.mod_eq_of_lt (lt_of_lt_of_le h1 hn),
        Nat.mod_eq_of_lt (lt_of_lt_of_le h2 hn)] at this)
    show BitVec.ofBool (BitVec.ofNat 32 (b : ℕ) == BitVec.ofNat 32 (e : ℕ)) = 0#1
    rw [beq_eq_false_iff_ne.mpr hne]
    rfl
  · intro h; exact absurd (Finset.mem_univ _) h

end Cert.Hand

end
-- ==== Proof.DiffValue.lean ====
/- The differential attention call: over a row of key tiles the scratches follow the softmax's running sums in both of the pair's heads,
   and the result array is the reference's result. -/
module

public import proofs.«01_k».proof.Proof.DiffStep
public import proofs.«01_k».proof.Proof.DiffRefValue
public import proofs.«01_k».proof.Proof.Gate
public import proofs.«01_k».proof.Pre_diff_finite

@[expose] public section

set_option maxRecDepth 16384

noncomputable section

namespace Cert.DiffIdeal.Hand

open Cert.DiffIdeal Cert.DiffIdeal.Gen Idealize.ShloMosaic Idealize.ShloMosaic.TcCoe Idealize.SL.Sem Cert.Hand
open Idealize.ShloMosaic.Pipeline (Dat)
open Cert.DiffRefIdeal.Hand (scr rs rv scr_coe rv_coe Real3 mean_at)

variable (m : (ℓ : Loc nD τ sig) → Buf (Elt Ideal) ℓ)

/-- The kernel's arguments as arrays: queries, keys, values, the lambda parameters, the sub-norm's gain. -/
abbrev aQ (c : Dev nD) : FVec Ideal S2x8448x768 .bf16 := m ((c : Thread nD τ).loc main_arg0)
abbrev aK (c : Dev nD) : FVec Ideal S2x8448x768 .bf16 := m ((c : Thread nD τ).loc main_arg1)
abbrev aV (c : Dev nD) : FVec Ideal S2x8448x768 .bf16 := m ((c : Thread nD τ).loc main_arg2)
abbrev aL (c : Dev nD) : FVec Ideal S4x64 .f32 := m ((c : Thread nD τ).loc main_arg3)
abbrev aN (c : Dev nD) : FVec Ideal S1x128 .f32 := m ((c : Thread nD τ).loc main_arg4)

/-- A number above minus infinity and below infinity, read off two comparisons' bits. -/
theorem real_of_bits {x : EReal} {p q : EReal} (hp : p = ⊥) (hq : q = ⊤) (h1 : p < x) (h2 : x < q) : x ≠ ⊥ ∧ x ≠ ⊤ :=
  ⟨ne_of_gt (hp ▸ h1), ne_of_lt (hq ▸ h2)⟩

section Pre

variable [Cert.Pre_diff_finite.Facts] (q k v : FVec Ideal S2x8448x768 .bf16) (l : FVec Ideal S4x64 .f32) (n : FVec Ideal S1x128 .f32)

theorem bot16 : Ideal.ofBits FTy.bf16 65408#16 = (⊥ : EReal) := by simp [Ideal.ofBits, Ideal.ieee]
theorem top16 : Ideal.ofBits FTy.bf16 32640#16 = (⊤ : EReal) := by simp [Ideal.ofBits, Ideal.ieee]
theorem top32 : Ideal.ofBits FTy.f32 2139095040#32 = (⊤ : EReal) := by simp [Ideal.ofBits, Ideal.ieee]

/-- The precondition's meaning: the queries, keys and values the call reads and the lambda parameters are real. -/
theorem q_of_pre (hp : (Cert.Pre_diff_finite.fn (F := Ideal) q k v l n).1 = fun _ => 1#1) : Real3 8192 q := by
  intro b r c hr
  have h := congrFun hp (ix3 b (⟨(r : ℕ), hr⟩ : Fin 8192) c)
  revert h
  pointwise [Cert.Pre_diff_finite.fn, Cert.Pre_diff_finite.fn_part1]
  intro h
  obtain ⟨h1, h2⟩ := Cert.Hand.and_bits h
  exact real_of_bits bot16 top16 h1 h2
theorem k_of_pre (hp : (Cert.Pre_diff_finite.fn (F := Ideal) q k v l n).2.1 = fun _ => 1#1) : Real3 8448 k := by
  intro b r c hr
  have h := congrFun hp (ix3 b r c)
  revert h
  pointwise [Cert.Pre_diff_finite.fn, Cert.Pre_diff_finite.fn_part1]
  intro h
  obtain ⟨h1, h2⟩ := Cert.Hand.and_bits h
  exact real_of_bits bot16 top16 h1 h2
theorem v_of_pre (hp : (Cert.Pre_diff_finite.fn (F := Ideal) q k v l n).2.2.1 = fun _ => 1#1) : Real3 8448 v := by
  intro b r c hr
  have h := congrFun hp (ix3 b r c)
  revert h
  pointwise [Cert.Pre_diff_finite.fn, Cert.Pre_diff_finite.fn_part1]
  intro h
  obtain ⟨h1, h2⟩ := Cert.Hand.and_bits h
  exact real_of_bits bot16 top16 h1 h2
theorem l_of_pre (hp : (Cert.Pre_diff_finite.fn (F := Ideal) q k v l n).2.2.2 = fun _ => 1#1) (i : Fin 4) (j : Fin 64) :
    l (ix2 i j) ≠ ⊥ ∧ l (ix2 i j) ≠ ⊤ := by
  have h := congrFun hp (ix2 i j)
  revert h
  pointwise [Cert.Pre_diff_finite.fn, Cert.Pre_diff_finite.fn_part1]
  intro h
  obtain ⟨h1, h2⟩ := Cert.Hand.and_bits h
  exact real_of_bits neg_inf top32 h1 h2

end Pre

/-- Every window's block index at grid point `t`: batch `t / 704`, pair `t / 176 % 4`, query tile `t / 11 % 16`, key tile `t % 11`. -/
theorem idx : ∀ t : Fin cfg0.N, win0_0.index t = ![t.val / 704, t.val / 11 % 16, 2 + t.val / 176 % 4]
    ∧ win0_1.index t = ![t.val / 704, t.val % 11, 2 + t.val / 176 % 4] ∧ win0_2.index t = ![t.val / 704, t.val % 11, 2 + t.val / 176 % 4]
    ∧ win0_3.index t = ![0, 0] ∧ win0_4.index t = ![0, 0] ∧ win0_5.index t = ![t.val / 704, t.val / 11 % 16, t.val / 176 % 4] :=
  (by decide +kernel : ∀ t : Fin grid0.N, _)

/-- The query block against the queries. -/
theorem q_read (c : Dev nD) (t : Fin cfg0.N) (r : Fin 512) (x : Fin 128) (b : Fin 2) (R : Fin 8448) (C : Fin 768)
    (hb : (b : ℕ) = t.val / 704) (hR : (R : ℕ) = t.val / 11 % 16 * 512 + r) (hC : (C : ℕ) = (2 + t.val / 176 % 4) * 128 + x) :
    X0_0 m c t (ix3 0 r x) = aQ m c (ix3 b R C) := by
  unfold X0_0 Pipeline.Window.fill
  rw [dif_pos (moved0_0 t _)]
  blk_point [iblk, V, idx t, hb, hR, hC]

theorem k_read (c : Dev nD) (t : Fin cfg0.N) (j : Fin 768) (x : Fin 128) (b : Fin 2) (J : Fin 8448) (C : Fin 768)
    (hb : (b : ℕ) = t.val / 704) (hJ : (J : ℕ) = t.val % 11 * 768 + j) (hC : (C : ℕ) = (2 + t.val / 176 % 4) * 128 + x) :
    (show FVec Ideal S1x768x128 .bf16 from iblk m c 1 t) (ix3 0 j x) = aK m c (ix3 b J C) := by
  blk_point [iblk, V, idx t, hb, hJ, hC]

theorem v_read (c : Dev nD) (t : Fin cfg0.N) (j : Fin 768) (x : Fin 128) (b : Fin 2) (J : Fin 8448) (C : Fin 768)
    (hb : (b : ℕ) = t.val / 704) (hJ : (J : ℕ) = t.val % 11 * 768 + j) (hC : (C : ℕ) = (2 + t.val / 176 % 4) * 128 + x) :
    (show FVec Ideal S1x768x128 .bf16 from iblk m c 2 t) (ix3 0 j x) = aV m c (ix3 b J C) := by
  blk_point [iblk, V, idx t, hb, hJ, hC]

theorem par_read (c : Dev nD) (t : Fin cfg0.N) (i : Fin 4) (j : Fin 64) :
    (show FVec Ideal S4x64 .f32 from iblk m c 3 t) (ix2 i j) = aL m c (ix2 i j) := by
  blk_point [iblk, V, idx t]

theorem lam_read (c : Dev nD) (t : Fin cfg0.N) : lam (iblk m c 3 t) = Cert.DiffRefIdeal.Hand.lam (aL m c) := by
  have e := par_read m c t
  unfold lam Cert.DiffRefIdeal.Hand.lam Cert.DiffRefIdeal.Hand.lamOf
  exact congrArg₂ (fun y z : EReal => Ideal.exp y - Ideal.exp z + _) (Finset.sum_congr rfl fun x _ => congrArg₂ (· * ·) (e 0 x) (e 1 x))
    (Finset.sum_congr rfl fun x _ => congrArg₂ (· * ·) (e 2 x) (e 3 x))

theorem gain_read (c : Dev nD) (t : Fin cfg0.N) (d : Fin 128) : (show FVec Ideal S1x128 .f32 from iblk m c 4 t) (ix2 0 d) = aN m c (ix2 0 d) := by
  blk_point [iblk, V, idx t]

/-- Grid point `t`'s scores against the arrays. -/
theorem tS_eq (c : Dev nD) (t : Fin cfg0.N) (hh : Fin 2) (r : Fin 512) (j : Fin 768) (b : Fin 2) (h : Fin 4) (R : Fin 8192) (J : Fin 8448)
    (hb : (b : ℕ) = t.val / 704) (hh4 : (h : ℕ) = t.val / 176 % 4) (hR : (R : ℕ) = t.val / 11 % 16 * 512 + r) (hJ : (J : ℕ) = t.val % 11 * 768 + j) :
    tS m c t hh r j = scr (aQ m c) (aK m c) b (⟨(h : ℕ) * 2 + hh, by omega⟩ : Fin 8) R J := by
  unfold tS sc scr
  refine Finset.sum_congr rfl fun y _ => congrArg₂ (· * ·) ?_ ?_
  · exact q_read m c t r _ b _ _ hb hR (by show 256 + (((h : ℕ) * 2 + hh) * 64 + (y : ℕ)) = (2 + t.val / 176 % 4) * 128 + ((hh : ℕ) * 64 + y); omega)
  · exact k_read m c t j _ b J _ hb hJ (by show 256 + (((h : ℕ) * 2 + hh) * 64 + (y : ℕ)) = (2 + t.val / 176 % 4) * 128 + ((hh : ℕ) * 64 + y); omega)

/-- After `n + 1` key tiles of a row, the scratches hold the running sums over those tiles' keys. -/
theorem seen (c : Dev nD) (hq : Real3 8192 (aQ m c)) (hk : Real3 8448 (aK m c)) (hv : Real3 8448 (aV m c)) (T : ℕ) (hh : Fin 2) (r : Fin 512) (d : Fin 128)
    (b : Fin 2) (h : Fin 4) (R : Fin 8192) (hb : (b : ℕ) = T / 64) (hh4 : (h : ℕ) = T / 16 % 4) (hR : (R : ℕ) = T % 16 * 512 + r) :
    ∀ (n : ℕ) (hn : n < 11) (hT : 11 * T + n < cfg0.N),
      Seen (rs (aQ m c) (aK m c) b (⟨(h : ℕ) * 2 + hh, by omega⟩ : Fin 8) R) (rv (aV m c) b h d) (768 * (n + 1))
        (sM m c (11 * T + n) hT (ix3 hh r 0)) (sL m c (11 * T + n) hT (ix3 hh r 0)) (sA m c (11 * T + n) hT (ix3 hh r d)) := by
  have hS : ∀ (n : ℕ) (hn : n < 11) (hT : 11 * T + n < cfg0.N) (x : Fin 768), tS m c ⟨11 * T + n, hT⟩ hh r x
      = ((rs (aQ m c) (aK m c) b (⟨(h : ℕ) * 2 + hh, by omega⟩ : Fin 8) R (768 * n + x) : ℝ) : EReal) := fun n hn hT x =>
    (tS_eq m c ⟨11 * T + n, hT⟩ hh r x b h R (⟨768 * n + x, by omega⟩ : Fin 8448) (by show (b : ℕ) = (11 * T + n) / 704; omega)
      (by show (h : ℕ) = (11 * T + n) / 176 % 4; omega) (by show (R : ℕ) = (11 * T + n) / 11 % 16 * 512 + r; omega)
      (by show 768 * n + (x : ℕ) = (11 * T + n) % 11 * 768 + x; omega)).trans (scr_coe _ _ hq hk _ _ _ _)
  have hW : ∀ (n : ℕ) (hn : n < 11) (hT : 11 * T + n < cfg0.N) (x : Fin 768), tV m c ⟨11 * T + n, hT⟩ d x
      = ((rv (aV m c) b h d (768 * n + x) : ℝ) : EReal) := fun n hn hT x =>
    (v_read m c ⟨11 * T + n, hT⟩ x d b (⟨768 * n + x, by omega⟩ : Fin 8448) (⟨256 + ((h : ℕ) * 128 + d), by omega⟩ : Fin 768)
      (by show (b : ℕ) = (11 * T + n) / 704; omega) (by show 768 * n + (x : ℕ) = (11 * T + n) % 11 * 768 + x; omega)
      (by show 256 + ((h : ℕ) * 128 + (d : ℕ)) = (2 + (11 * T + n) / 176 % 4) * 128 + d; omega)).trans (rv_coe _ hv _ _ _ _)
  intro n
  induction n with
  | zero =>
    intro hn hT
    have h0 : (⟨11 * T + 0, hT⟩ : Fin cfg0.N).val % 11 = 0 := by show (11 * T + 0) % 11 = 0; omega
    have e := seen_step _ _ 0 767 _ _ _ _ _ (seen_start (rs (aQ m c) (aK m c) b (⟨(h : ℕ) * 2 + hh, by omega⟩ : Fin 8) R) (rv (aV m c) b h d))
      (hS 0 hn hT) (hW 0 hn hT)
    have e1 := m_first m c ⟨11 * T + 0, hT⟩ h0 hh r
    have e2 := l_first m c ⟨11 * T + 0, hT⟩ h0 hh r
    have e3 := a_first m c ⟨11 * T + 0, hT⟩ h0 hh r d
    rw [← e1, ← e2, ← e3] at e
    exact e
  | succ n ih =>
    intro hn hT
    have h0 : ¬(⟨11 * T + (n + 1), hT⟩ : Fin cfg0.N).val % 11 = 0 := by show ¬(11 * T + (n + 1)) % 11 = 0; omega
    have e := seen_step _ _ (768 * (n + 1)) 767 _ _ _ _ _ (ih (by omega) (by omega)) (hS (n + 1) hn hT) (hW (n + 1) hn hT)
    have e1 := m_step m c ⟨11 * T + (n + 1), hT⟩ h0 hh r
    have e2 := l_step m c ⟨11 * T + (n + 1), hT⟩ h0 hh r
    have e3 := a_step m c ⟨11 * T + (n + 1), hT⟩ h0 hh r d
    exact e1 ▸ e2 ▸ e3 ▸ e

/-- What the arguments must be: real where the call reads them. -/
structure Real (c : Dev nD) : Prop where
  q : Real3 8192 (aQ m c)
  k : Real3 8448 (aK m c)
  v : Real3 8448 (aV m c)
  l : ∀ i j, aL m c (ix2 i j) ≠ ⊥ ∧ aL m c (ix2 i j) ≠ ⊤

/-- Where an index of the output's block at grid point `t` lies in the result. -/
theorem out_emb (t : Fin cfg0.N) (ht : t.val < 1408) (y0 : Fin 1) (y1 : Fin 512) (y2 : Fin 128) :
    ((cfg0.win 5).blk t).view.emb (ix3 y0 y1 y2)
      = ix3 (⟨t.val / 704, by omega⟩ : Fin 2) (⟨t.val / 11 % 16 * 512 + (y1 : ℕ), by omega⟩ : Fin 8192)
          (⟨t.val / 176 % 4 * 128 + (y2 : ℕ), by omega⟩ : Fin 512) := by
  blk_ext [idx t]

/-- After the last point of a row of key tiles a head's weighted sum over its sum of weights is its mean of the values. -/
theorem last_mean (c : Dev nD) (hp : Real m c) (t : Fin cfg0.N) (ht : t.val < 1408) (h : t.val % 11 = 10) (hh : Fin 2) (r : Fin 512) (x : Fin 128) :
    Ideal.div (sA m c t.val t.isLt (ix3 hh r x)) (sL m c t.val t.isLt (ix3 hh r 0))
      = ((soft (rs (aQ m c) (aK m c) (⟨t.val / 704, by omega⟩ : Fin 2) (⟨t.val / 176 % 4 * 2 + hh, by omega⟩ : Fin 8)
            (⟨t.val / 11 % 16 * 512 + (r : ℕ), by omega⟩ : Fin 8192))
          (rv (aV m c) (⟨t.val / 704, by omega⟩ : Fin 2) (⟨t.val / 176 % 4, by omega⟩ : Fin 4) x) 8448 : ℝ) : EReal) := by
  have s := seen m c hp.q hp.k hp.v (t.val / 11) hh r x (⟨t.val / 704, by omega⟩ : Fin 2) (⟨t.val / 176 % 4, by omega⟩ : Fin 4)
    (⟨t.val / 11 % 16 * 512 + (r : ℕ), by omega⟩ : Fin 8192) (by show t.val / 704 = t.val / 11 / 64; omega)
    (by show t.val / 176 % 4 = t.val / 11 / 16 % 4; omega) rfl 10 (by omega) (by omega)
  have et : 11 * (t.val / 11) + 10 = t.val := by omega
  simp only [et] at s
  exact seen_div _ _ _ _ _ _ (by omega) s

/-- THE POINT: what the last point of a row of key tiles stores at `y` of the block is the reference's result there. -/
theorem point (c : Dev nD) (hp : Real m c) (t : Fin cfg0.N) (h : t.val % 11 = 10) (y : S1x512x128.Idx) :
    (outsAt0 m c t.val t.isLt).1 y
      = Cert.DiffRefIdeal.Read.val_main_v64 (F := Ideal) (aQ m c) (aK m c) (aV m c) (aL m c) (aN m c) (((cfg0.win 5).blk t).view.emb y) := by
  have ht : t.val < 1408 := lt_of_lt_of_eq t.isLt N_0
  idx_vars y
  have he := out_emb t ht y0 y1 y2
  have e1 : (⟨(t.val / 176 % 4 * 128 + (y2 : ℕ)) / 128, by omega⟩ : Fin 4) = ⟨t.val / 176 % 4, by omega⟩ :=
    Fin.ext (by show (t.val / 176 % 4 * 128 + (y2 : ℕ)) / 128 = t.val / 176 % 4; omega)
  have e2 : (⟨(t.val / 176 % 4 * 128 + (y2 : ℕ)) % 128, by omega⟩ : Fin 128) = y2 :=
    Fin.ext (by show (t.val / 176 % 4 * 128 + (y2 : ℕ)) % 128 = (y2 : ℕ); omega)
  refine Eq.trans ?_ ((congrArg _ he).trans (Cert.DiffRefIdeal.Hand.ref_at _ _ _ _ _ _ _ _)).symm
  refine (last_store m c t h y0 y1 y2 (fun x => Cert.DiffRefIdeal.Read.val_main_v45 (F := Ideal) (aQ m c) (aK m c) (aV m c) (aL m c)
    (ix4 (⟨t.val / 704, by omega⟩ : Fin 2) (⟨t.val / 176 % 4, by omega⟩ : Fin 4) x (⟨t.val / 11 % 16 * 512 + (y1 : ℕ), by omega⟩ : Fin 8192))) ?_).trans ?_
  · intro x
    have hs := fun hh : Fin 2 => last_mean m c hp t ht h hh y1 x
    rw [hs 0, hs 1, lam_read, mean_at (aQ m c) (aK m c) (aV m c) (aL m c) hp.q hp.k hp.v hp.l]
  · rw [gain_read]
    simp only [e1, e2]

/-- The result array after the run is the reference's result of the argument arrays. -/
theorem final (c : Dev nD) (hp : Real m c) :
    (dats m 0 c).arrAt 5 cfg0.N = Cert.DiffRefIdeal.Read.val_main_v64 (F := Ideal) (aQ m c) (aK m c) (aV m c) (aL m c) (aN m c) := by
  refine (dats m 0 c).arrAt_eq_of_covers 5 _ (by decide +kernel) fun t hf y => ?_
  blk_simp
  rw [after0_5]
  exact point m c hp t ((flush0_5 t).mp hf) y

end Cert.DiffIdeal.Hand

end
-- ==== Proof.DiffClaim.lean ====
/- The claims of the differential attention call. -/
module

public import proofs.«01_k».proof.Defs
public import proofs.«01_k».proof.Proof.Gen.Diff.Frame
public import proofs.«01_k».proof.Proof.Gen.DiffIdeal.Frame
public import proofs.«01_k».proof.Proof.DiffValue
public import Idealize.ShloMosaic.Lib.Claim
public import Idealize.ShloMosaic.Lib.Decide

@[expose] public section

set_option maxRecDepth 16384

noncomputable section

namespace Cert.Proof.Diff

open Idealize.ShloMosaic Idealize.SL.Sem

/-- The shape facts of the precondition. -/
instance facts_finite : Cert.Pre_diff_finite.Facts where
  slices_S2x8448x768_S2x8192x512_0_0_256 := by decide
  bcast_S_S2x8192x512 := by decide
  slices_S2x8448x768_S2x8448x512_0_0_256 := by decide
  bcast_S_S2x8448x512 := by decide
  bcast_S_S4x64 := by decide

/-- The kernel ends with its arguments unchanged. -/
theorem frame : Cert.quiescent_Diff := fun m g _ => Cert.Diff.Gen.frame m g

/-- The idealized kernel ends with its arguments unchanged. -/
theorem frameI : Cert.quiescent_DiffIdeal := fun m g _ => Cert.DiffIdeal.Gen.frame m g

/-- … also under the precondition. -/
theorem frameI_pre : Cert.quiescent_DiffIdeal_pre_diff_finite := fun m g _ => Cert.DiffIdeal.Gen.frame m g

/-- The reference ends with its arguments unchanged. -/
theorem frameR : Cert.quiescent_DiffRefIdeal := fun m g _ =>
  (θ_run Cert.DiffRefIdeal.defs _ _).mono (fun r h => ⟨fun c => (h c).2, sem_eq_zero_of_no_sems (by decide) r.2⟩)
    (Cert.DiffRefIdeal.Value.run m g)

/-- … also under the precondition. -/
theorem frameR_pre : Cert.quiescent_DiffRefIdeal_pre_diff_finite := fun m g _ =>
  (θ_run Cert.DiffRefIdeal.defs _ _).mono (fun r h => ⟨fun c => (h c).2, sem_eq_zero_of_no_sems (by decide) r.2⟩)
    (Cert.DiffRefIdeal.Value.run m g)

/-- The idealization kept every operation. -/
theorem kept : Cert.preserves_Diff_DiffIdeal := trivial

/-- THE VALUE: the kernel's result is the reference's, if the queries, keys and values the call reads and the lambda parameters are finite. -/
theorem algebraic : Cert.algebraic_DiffIdeal_DiffRefIdeal_pre_diff_finite := by
  pair_intro
  · run_from Cert.DiffIdeal.Gen.run_main m g
  · run_from Cert.DiffRefIdeal.Value.run m' g'
    have hp : Cert.DiffIdeal.Hand.Real m c :=
      ⟨Cert.DiffIdeal.Hand.q_of_pre _ _ _ _ _ (hpre c).1, Cert.DiffIdeal.Hand.k_of_pre _ _ _ _ _ (hpre c).2.1,
        Cert.DiffIdeal.Hand.v_of_pre _ _ _ _ _ (hpre c).2.2.1, Cert.DiffIdeal.Hand.l_of_pre _ _ _ _ _ (hpre c).2.2.2⟩
    refine Eq.trans ?_ (Cert.DiffIdeal.Hand.final m c hp).symm
    obtain ⟨h0, h1, h2, h3, h4⟩ := hagree c
    rw [Cert.DiffRefIdeal.Read.val_main_v64_eq, h0, h1, h2, h3, h4]

end Cert.Proof.Diff

end
-- ==== Proof.DiffTwoStep.lean ====
/- The second layer's differential attention kernel against the first layer's: on the same arguments the scratches agree at every grid
   point, and what the last point of a row of tiles stores. -/
module

public import proofs.«01_k».proof.Proof.DiffStep
public import proofs.«01_k».proof.Proof.Gen.DiffTwoIdeal.Value

@[expose] public section

set_option maxRecDepth 16384

noncomputable section

namespace Cert.DiffTwoIdeal.Hand

open Cert.DiffTwoIdeal Cert.DiffTwoIdeal.Gen Idealize.ShloMosaic Idealize.ShloMosaic.TcCoe Idealize.SL.Sem Cert.Hand
open Cert.DiffIdeal.Hand (ld_head read_lo read_hi a0_at l0_at a1_at l1_at)

variable (m : (ℓ : Loc nD τ sig) → Buf (Elt Ideal) ℓ)

/-- The memory as the first layer's kernel's: the two have the same buffers. -/
def m1 : (ℓ : Loc Cert.DiffIdeal.nD Cert.DiffIdeal.τ Cert.DiffIdeal.sig) → Buf (Elt Ideal) ℓ := m

/-- At every grid point the scratches are the first layer's kernel's. -/
theorem scr_eq (c : Dev nD) (n : ℕ) : ∀ t : Fin cfg0.N, t.val = n →
    (outsAt0 m c t.val t.isLt).2 = (Cert.DiffIdeal.Gen.outsAt0 (m1 m) c t.val t.isLt).2 := by
  induction n with
  | zero =>
    intro t ht
    rw [outsAt0_A m c t (by omega) (by omega), Cert.DiffIdeal.Gen.outsAt0_A (m1 m) c t (by omega) (by omega)]
    refine Prod.ext ?_ (Prod.ext ?_ ?_) <;> (frame_out; rfl)
  | succ n ih =>
    intro t ht
    have e : (outsAt0 m c (t.val - 1) (Nat.lt_of_le_of_lt (Nat.sub_le _ _) t.isLt)).2
        = (Cert.DiffIdeal.Gen.outsAt0 (m1 m) c (t.val - 1) (Nat.lt_of_le_of_lt (Nat.sub_le _ _) t.isLt)).2 :=
      ih ⟨t.val - 1, Nat.lt_of_le_of_lt (Nat.sub_le _ _) t.isLt⟩ (by show t.val - 1 = n; omega)
    by_cases h0 : t.val % 11 = 0
    · rw [outsAt0_A m c t h0 (by omega), Cert.DiffIdeal.Gen.outsAt0_A (m1 m) c t h0 (by omega)]
      refine Prod.ext ?_ (Prod.ext ?_ ?_) <;> (frame_out; rfl)
    · by_cases h1 : t.val % 11 = 10
      · rw [outsAt0_C m c t h0 h1, Cert.DiffIdeal.Gen.outsAt0_C (m1 m) c t h0 h1, e]
        refine Prod.ext ?_ (Prod.ext ?_ ?_) <;> (frame_out; rfl)
      · rw [outsAt0_B m c t h0 h1, Cert.DiffIdeal.Gen.outsAt0_B (m1 m) c t h0 h1, e]
        refine Prod.ext ?_ (Prod.ext ?_ ?_) <;> (frame_out; rfl)

section Last

variable (b : Fin 1) (r : Fin 512) (d : Fin 128) (lp : FVec Ideal S4x64 .f32) (a0 a1 : FVec Ideal S1x512x128 .f32) (l0 l1 : FVec Ideal S1x512x1 .f32)

/-- The lambda of the pair, from the four parameter rows. -/
def lam (lp : FVec Ideal S4x64 .f32) : EReal :=
  Ideal.exp (∑ x, lp (ix2 0 x) * lp (ix2 1 x)) - Ideal.exp (∑ x, lp (ix2 2 x) * lp (ix2 3 x)) + Ideal.ofBits FTy.f32 1052116297#32

/-- The difference of the two heads' weighted means. -/
theorem pay7_at : k0_pay7 (F := Ideal) lp a0 l0 a1 l1 (ix2 r d)
    = Ideal.div (a0 (ix3 0 r d)) (l0 (ix3 0 r 0)) - lam lp * Ideal.div (a1 (ix3 0 r d)) (l1 (ix3 0 r 0)) := by
  pointwise [k0_pay7, lam]

/-- The last step's store: the difference normalised by its root mean square and scaled. -/
theorem out_at (gn : FVec Ideal S1x128 .f32) (o : Fin 128 → EReal)
    (ho : ∀ x, Ideal.div (a0 (ix3 0 r x)) (l0 (ix3 0 r 0)) - lam lp * Ideal.div (a1 (ix3 0 r x)) (l1 (ix3 0 r 0)) = o x) :
    k0_pay6 (F := Ideal) (k0_pay7 lp a0 l0 a1 l1) (k0_pay8 lp a0 l0 a1 l1) gn (ix3 b r d)
      = o d * Ideal.rsqrt (Ideal.div (∑ x, o x * o x) (Ideal.ofBits FTy.f32 1124073472#32) + Ideal.ofBits FTy.f32 897988541#32)
          * gn (ix2 0 d) * Ideal.ofBits FTy.f32 1059388764#32 := by
  pointwise [k0_pay6, k0_pay8, pay7_at, ho]

end Last

open Cert.DiffIdeal.Hand (sA sL a_step l_step)

/-- What the last point of a row of key tiles stores, from the scratches it leaves. -/
theorem last_store (c : Dev nD) (t : Fin cfg0.N) (h : t.val % 11 = 10) (b : Fin 1) (r : Fin 512) (d : Fin 128) (o : Fin 128 → EReal)
    (ho : ∀ x, Ideal.div (sA (m1 m) c t.val t.isLt (ix3 0 r x)) (sL (m1 m) c t.val t.isLt (ix3 0 r 0))
      - lam (iblk m c 3 t) * Ideal.div (sA (m1 m) c t.val t.isLt (ix3 1 r x)) (sL (m1 m) c t.val t.isLt (ix3 1 r 0)) = o x) :
    (outsAt0 m c t.val t.isLt).1 (ix3 b r d)
      = o d * Ideal.rsqrt (Ideal.div (∑ x, o x * o x) (Ideal.ofBits FTy.f32 1124073472#32) + Ideal.ofBits FTy.f32 897988541#32)
          * (show FVec Ideal S1x128 .f32 from iblk m c 4 t) (ix2 0 d) * Ideal.ofBits FTy.f32 1059388764#32 := by
  have hA : ∀ hh x, sA (m1 m) c t.val t.isLt (ix3 hh r x) = _ := fun hh x => a_step (m1 m) c t (by omega) hh r x
  have hL : ∀ hh, sL (m1 m) c t.val t.isLt (ix3 hh r 0) = _ := fun hh => l_step (m1 m) c t (by omega) hh r
  simp only [hA, hL] at ho
  have e : (outsAt0 m c (t.val - 1) (Nat.lt_of_le_of_lt (Nat.sub_le _ _) t.isLt)).2
      = (Cert.DiffIdeal.Gen.outsAt0 (m1 m) c (t.val - 1) (Nat.lt_of_le_of_lt (Nat.sub_le _ _) t.isLt)).2 :=
    scr_eq m c _ ⟨t.val - 1, Nat.lt_of_le_of_lt (Nat.sub_le _ _) t.isLt⟩ rfl
  rw [outsAt0_C m c t (by omega) h, e]
  frame_out
  refine out_at b r d _ _ _ _ _ _ o fun x => Eq.trans ?_ (ho x)
  rw [read_lo, read_lo, read_hi, read_hi]
  simp only [read_unread_whole]
  exact congrArg₂ (fun y z : EReal => y - lam (iblk m c 3 t) * z)
    (congrArg₂ Ideal.div ((a0_at _ _ _ _ _ _ _ _).trans (congrFun (congrFun (congrArg₂ newA (ld_head 0 _ _ _ _) (ld_head 0 _ _ _ _)) _) _))
      ((l0_at _ _ _ _ _ _).trans (congrFun (congrArg₂ newL (ld_head 0 _ _ _ _) (ld_head 0 _ _ _ _)) _)))
    (congrArg₂ Ideal.div ((a1_at _ _ _ _ _ _ _ _).trans (congrFun (congrFun (congrArg₂ newA (ld_head 1 _ _ _ _) (ld_head 1 _ _ _ _)) _) _))
      ((l1_at _ _ _ _ _ _).trans (congrFun (congrArg₂ newL (ld_head 1 _ _ _ _) (ld_head 1 _ _ _ _)) _)))

end Cert.DiffTwoIdeal.Hand

end
-- ==== Proof.DiffTwoRefValue.lean ====
/- The second layer's differential attention reference, read at an index: the first layer's weights under the second layer's lambda. -/
module

public import proofs.«01_k».proof.Proof.Gen.DiffTwoRefIdeal.Read
public import proofs.«01_k».proof.Proof.DiffRefValue

@[expose] public section

set_option maxRecDepth 16384

noncomputable section

namespace Cert.DiffTwoRefIdeal.Hand

open Cert.DiffTwoRefIdeal Cert.DiffTwoRefIdeal.Gen Cert.DiffTwoRefIdeal.Read Idealize.ShloMosaic Idealize.ShloMosaic.TcCoe Idealize.SL.Sem Cert.Hand
open Cert.DiffRefIdeal.Hand (p0_at p1_at lidx45 ridx45 v_at lamOf lamOf_coe Real3 rs rv mean_of)

variable (q k v : FVec Ideal S2x8448x768 .bf16) (lp : FVec Ideal S4x64 .f32) (b : Fin 2)

/-- The second layer's lambda. -/
def lam : EReal := lamOf (Ideal.ofBits FTy.f32 1052116297#32) lp

theorem lam_at : val_main_v24 (F := Ideal) lp ix0 = lam lp := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_cst, val_main_cst_0, val_main_cst_1, lam, lamOf]

/-- Lambda is real when the parameters are. -/
theorem lam_coe (h : ∀ i j, lp (ix2 i j) ≠ ⊥ ∧ lp (ix2 i j) ≠ ⊤) : lam lp = (((lam lp).toReal : ℝ) : EReal) := by
  have hc : Ideal.ofBits FTy.f32 1052116297#32 = ((11928905 / 2 ^ 25 : ℝ) : EReal) := by
    simp [Ideal.ofBits, Ideal.ieee, -EReal.coe_mul]
    norm_num
  rw [lam, hc]
  exact lamOf_coe _ lp h

/-- The difference of the pair's weights. -/
theorem d_at (h : Fin 4) (r : Fin 8192) (j : Fin 8448) :
    val_main_v44 (F := Ideal) q k lp (ix4 b h r j)
      = Cert.DiffRefIdeal.Read.val_main_v36 (F := Ideal) q k (ix4 b (⟨(h : ℕ) * 2 + (0 : Fin 2), by show (h : ℕ) * 2 + 0 < 8; omega⟩ : Fin 8) r j)
          - lam lp * Cert.DiffRefIdeal.Read.val_main_v36 (F := Ideal) q k (ix4 b (⟨(h : ℕ) * 2 + (1 : Fin 2), by show (h : ℕ) * 2 + 1 < 8; omega⟩ : Fin 8) r j) := by
  rw [val_main_v44_apply, val_main_v43_apply, val_main_v42_apply]
  exact congrArg₂ (fun x y : EReal => x - y) (p0_at q k b h r j)
    (congrArg₂ (fun x y : EReal => x * y) ((congrArg _ (funext fun a => a.elim0)).trans (lam_at lp)) (p1_at q k b h r j))

/-- The pair's combined mean of the values: the first head's less lambda times the second's. -/
theorem mean_at (hq : Real3 8192 q) (hk : Real3 8448 k) (hv : Real3 8448 v) (hl : ∀ i j, lp (ix2 i j) ≠ ⊥ ∧ lp (ix2 i j) ≠ ⊤)
    (h : Fin 4) (r : Fin 8192) (d : Fin 128) :
    val_main_v45 (F := Ideal) q k v lp (ix4 b h d r)
      = ((soft (rs q k b (⟨(h : ℕ) * 2 + (0 : Fin 2), by show (h : ℕ) * 2 + 0 < 8; omega⟩ : Fin 8) r) (rv v b h d) 8448 : ℝ) : EReal)
        - lam lp * ((soft (rs q k b (⟨(h : ℕ) * 2 + (1 : Fin 2), by show (h : ℕ) * 2 + 1 < 8; omega⟩ : Fin 8) r) (rv v b h d) 8448 : ℝ) : EReal) := by
  refine Eq.trans ?_ (mean_of q k v (lam lp) hq hk hv (lam_coe lp hl) b h r d)
  rw [val_main_v45_apply]
  exact Finset.sum_congr rfl fun x _ => congrArg₂ (· * ·) ((congrArg _ (lidx45 b h r d x)).trans (v_at v b h x d))
    ((congrArg _ (ridx45 b h r d x)).trans (d_at q k lp b h r x))

/-- The result: the combined mean over its root mean square, scaled. -/
theorem ref_at (gn : FVec Ideal S1x128 .f32) (r : Fin 8192) (c : Fin 512) :
    val_main_v64 (F := Ideal) q k v lp gn (ix3 b r c)
      = val_main_v45 (F := Ideal) q k v lp (ix4 b (⟨(c : ℕ) / 128, by omega⟩ : Fin 4) (⟨(c : ℕ) % 128, by omega⟩ : Fin 128) r)
        * Ideal.rsqrt (Ideal.div (∑ x : Fin 128, val_main_v45 (F := Ideal) q k v lp (ix4 b (⟨(c : ℕ) / 128, by omega⟩ : Fin 4) x r)
            * val_main_v45 (F := Ideal) q k v lp (ix4 b (⟨(c : ℕ) / 128, by omega⟩ : Fin 4) x r)) (Ideal.ofBits FTy.f32 1124073472#32)
            + Ideal.ofBits FTy.f32 897988541#32)
        * gn (ix2 0 (⟨(c : ℕ) % 128, by omega⟩ : Fin 128)) * Ideal.ofBits FTy.f32 1059388764#32 := by
  pointwise [val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47, val_main_v46,
    val_main_cst_5, val_main_cst_6, val_main_cst_7, val_main_cst_8]

end Cert.DiffTwoRefIdeal.Hand

end
-- ==== Proof.DiffTwoValue.lean ====
/- The second layer's differential attention call: the result array is the reference's result. -/
module

public import proofs.«01_k».proof.Proof.DiffTwoStep
public import proofs.«01_k».proof.Proof.DiffTwoRefValue
public import proofs.«01_k».proof.Proof.DiffValue

@[expose] public section

set_option maxRecDepth 16384

noncomputable section

namespace Cert.DiffTwoIdeal.Hand

open Cert.DiffTwoIdeal Cert.DiffTwoIdeal.Gen Idealize.ShloMosaic Idealize.ShloMosaic.TcCoe Idealize.SL.Sem Cert.Hand
open Idealize.ShloMosaic.Pipeline (Dat)
open Cert.DiffIdeal.Hand (aQ aK aV aL aN Real par_read gain_read out_emb last_mean)

variable (m : (ℓ : Loc nD τ sig) → Buf (Elt Ideal) ℓ)

/-- The lambda a grid point computes is the reference's. -/
theorem lam_read (c : Dev nD) (t : Fin cfg0.N) : lam (iblk m c 3 t) = Cert.DiffTwoRefIdeal.Hand.lam (aL (m1 m) c) := by
  have e := par_read (m1 m) c t
  unfold lam Cert.DiffTwoRefIdeal.Hand.lam Cert.DiffRefIdeal.Hand.lamOf
  exact congrArg₂ (fun y z : EReal => Ideal.exp y - Ideal.exp z + _) (Finset.sum_congr rfl fun x _ => congrArg₂ (· * ·) (e 0 x) (e 1 x))
    (Finset.sum_congr rfl fun x _ => congrArg₂ (· * ·) (e 2 x) (e 3 x))

/-- THE POINT: what the last point of a row of key tiles stores at `y` of the block is the reference's result there. -/
theorem point (c : Dev nD) (hp : Real (m1 m) c) (t : Fin cfg0.N) (h : t.val % 11 = 10) (y : S1x512x128.Idx) :
    (outsAt0 m c t.val t.isLt).1 y
      = Cert.DiffTwoRefIdeal.Read.val_main_v64 (F := Ideal) (aQ (m1 m) c) (aK (m1 m) c) (aV (m1 m) c) (aL (m1 m) c) (aN (m1 m) c)
          (((cfg0.win 5).blk t).view.emb y) := by
  have ht : t.val < 1408 := lt_of_lt_of_eq t.isLt N_0
  idx_vars y
  have e1 : (⟨(t.val / 176 % 4 * 128 + (y2 : ℕ)) / 128, by omega⟩ : Fin 4) = ⟨t.val / 176 % 4, by omega⟩ :=
    Fin.ext (by show (t.val / 176 % 4 * 128 + (y2 : ℕ)) / 128 = t.val / 176 % 4; omega)
  have e2 : (⟨(t.val / 176 % 4 * 128 + (y2 : ℕ)) % 128, by omega⟩ : Fin 128) = y2 :=
    Fin.ext (by show (t.val / 176 % 4 * 128 + (y2 : ℕ)) % 128 = (y2 : ℕ); omega)
  refine Eq.trans ?_ ((congrArg _ (out_emb t ht y0 y1 y2)).trans (Cert.DiffTwoRefIdeal.Hand.ref_at _ _ _ _ _ _ _ _)).symm
  refine (last_store m c t h y0 y1 y2 (fun x => Cert.DiffTwoRefIdeal.Read.val_main_v45 (F := Ideal) (aQ (m1 m) c) (aK (m1 m) c) (aV (m1 m) c) (aL (m1 m) c)
    (ix4 (⟨t.val / 704, by omega⟩ : Fin 2) (⟨t.val / 176 % 4, by omega⟩ : Fin 4) x (⟨t.val / 11 % 16 * 512 + (y1 : ℕ), by omega⟩ : Fin 8192))) ?_).trans ?_
  · intro x
    have hs := fun hh : Fin 2 => last_mean (m1 m) c hp t ht h hh y1 x
    rw [lam_read, Cert.DiffTwoRefIdeal.Hand.mean_at _ _ _ _ _ hp.q hp.k hp.v hp.l]
    exact congrArg₂ (fun y z : EReal => y - Cert.DiffTwoRefIdeal.Hand.lam (aL (m1 m) c) * z) (hs 0) (hs 1)
  · simp only [e1, e2]
    exact congrArg (fun g : EReal => _ * g * _) (gain_read (m1 m) c t y2)

/-- The result array after the run is the reference's result of the argument arrays. -/
theorem final (c : Dev nD) (hp : Real (m1 m) c) :
    (dats m 0 c).arrAt 5 cfg0.N
      = Cert.DiffTwoRefIdeal.Read.val_main_v64 (F := Ideal) (aQ (m1 m) c) (aK (m1 m) c) (aV (m1 m) c) (aL (m1 m) c) (aN (m1 m) c) := by
  refine (dats m 0 c).arrAt_eq_of_covers 5 _ (by decide +kernel) fun t hf y => ?_
  blk_simp
  rw [after0_5]
  exact point m c hp t ((flush0_5 t).mp hf) y

end Cert.DiffTwoIdeal.Hand

end
-- ==== Proof.DiffTwoClaim.lean ====
/- The claims of the second layer's differential attention call. -/
module

public import proofs.«01_k».proof.Defs
public import proofs.«01_k».proof.Proof.Gen.DiffTwo.Frame
public import proofs.«01_k».proof.Proof.Gen.DiffTwoIdeal.Frame
public import proofs.«01_k».proof.Proof.DiffTwoValue
public import proofs.«01_k».proof.Proof.DiffClaim
public import Idealize.ShloMosaic.Lib.Claim
public import Idealize.ShloMosaic.Lib.Decide

@[expose] public section

set_option maxRecDepth 16384

noncomputable section

namespace Cert.Proof.DiffTwo

open Idealize.ShloMosaic Idealize.SL.Sem
open Cert.DiffIdeal.Hand (q_of_pre k_of_pre v_of_pre l_of_pre)

/-- The kernel ends with its arguments unchanged. -/
theorem frame : Cert.quiescent_DiffTwo := fun m g _ => Cert.DiffTwo.Gen.frame m g

/-- The idealized kernel ends with its arguments unchanged. -/
theorem frameI : Cert.quiescent_DiffTwoIdeal := fun m g _ => Cert.DiffTwoIdeal.Gen.frame m g

/-- … also under the precondition. -/
theorem frameI_pre : Cert.quiescent_DiffTwoIdeal_pre_diff_finite := fun m g _ => Cert.DiffTwoIdeal.Gen.frame m g

/-- The reference ends with its arguments unchanged. -/
theorem frameR : Cert.quiescent_DiffTwoRefIdeal := fun m g _ =>
  (θ_run Cert.DiffTwoRefIdeal.defs _ _).mono (fun r h => ⟨fun c => (h c).2, sem_eq_zero_of_no_sems (by decide) r.2⟩)
    (Cert.DiffTwoRefIdeal.Value.run m g)

/-- … also under the precondition. -/
theorem frameR_pre : Cert.quiescent_DiffTwoRefIdeal_pre_diff_finite := fun m g _ =>
  (θ_run Cert.DiffTwoRefIdeal.defs _ _).mono (fun r h => ⟨fun c => (h c).2, sem_eq_zero_of_no_sems (by decide) r.2⟩)
    (Cert.DiffTwoRefIdeal.Value.run m g)

/-- The idealization kept every operation. -/
theorem kept : Cert.preserves_DiffTwo_DiffTwoIdeal := trivial

/-- THE VALUE: the kernel's result is the reference's, if the queries, keys and values the call reads and the lambda parameters are finite. -/
theorem algebraic : Cert.algebraic_DiffTwoIdeal_DiffTwoRefIdeal_pre_diff_finite := by
  pair_intro
  · run_from Cert.DiffTwoIdeal.Gen.run_main m g
  · run_from Cert.DiffTwoRefIdeal.Value.run m' g'
    have hp : Cert.DiffIdeal.Hand.Real (Cert.DiffTwoIdeal.Hand.m1 m) c :=
      ⟨q_of_pre _ _ _ _ _ (hpre c).1, k_of_pre _ _ _ _ _ (hpre c).2.1, v_of_pre _ _ _ _ _ (hpre c).2.2.1, l_of_pre _ _ _ _ _ (hpre c).2.2.2⟩
    refine Eq.trans ?_ (Cert.DiffTwoIdeal.Hand.final m c hp).symm
    obtain ⟨h0, h1, h2, h3, h4⟩ := hagree c
    rw [Cert.DiffTwoRefIdeal.Read.val_main_v64_eq, h0, h1, h2, h3, h4]
    rfl

end Cert.Proof.DiffTwo

end
-- ==== Proof.MoePay.lean ====
/- The expert kernel's payloads, read at an index. -/
module

public import proofs.«01_k».proof.Proof.Gen.MoeIdeal.Skeleton
public import Idealize.ShloMosaic.Lib.Pipeline.ValueKit
public import proofs.«01_k».proof.Proof.Gate

@[expose] public section

set_option maxRecDepth 16384

noncomputable section

namespace Cert.MoeIdeal.Hand

open Cert.MoeIdeal Cert.MoeIdeal.Gen Idealize.ShloMosaic Idealize.ShloMosaic.TcCoe Idealize.SL.Sem

/-- The cleared accumulator. -/
theorem pay3_at (j : S512x1024.Idx) : k0_pay3 (F := Ideal) j = (0 : EReal) := by pointwise [k0_pay3]

/-- One grid step's sum: the accumulator plus the tile's gated hidden units times the tile of the output projection, the gate
    being the lane of the gates that the step's expert names. -/
theorem pay1_at (i : grid0.Coords) (acc : FVec Ideal S512x1024 .f32) (g : FVec Ideal S1x512x128 .f32) (h : FVec Ideal S1x512x1024 .bf16)
    (w1 w3 : FVec Ideal S1x1024x1792 .bf16) (w2 : FVec Ideal S1x1792x1024 .bf16) (r : Fin 512) (d : Fin 1024) (e : Fin 128)
    (he : (e : ℕ) = (i 2 : ℕ)) :
    k0_pay1 (F := Ideal) (k0_pay4 i g h w1 w3) acc (k0_pay5 w2) (ix2 r d)
      = acc (ix2 r d) + ∑ f, (((∑ k, h (ix3 0 r k) * w1 (ix3 0 k f)) * Ideal.logistic (∑ k, h (ix3 0 r k) * w1 (ix3 0 k f))
          * ∑ k, h (ix3 0 r k) * w3 (ix3 0 k f)) * g (ix3 0 r e)) * w2 (ix3 0 f d) := by
  pointwise [k0_pay1, k0_pay4, k0_pay5]
  rw [← he, Cert.Hand.lane_sum (fun x => g (ix3 0 r x)) e (by norm_num)]

/-- The last step's store: the residual plus the modulation row times the accumulator, normalised by its root mean square and scaled. -/
theorem pay2_at (x : FVec Ideal S1x512x1024 .f32) (mr : FVec Ideal S1x1x1024 .f32) (acc : FVec Ideal S512x1024 .f32)
    (gn : FVec Ideal S1x1024 .f32) (b : Fin 1) (r : Fin 512) (d : Fin 1024) :
    k0_pay2 (F := Ideal) x mr acc gn (ix3 b r d)
      = (x (ix3 0 r d) + mr (ix3 0 0 d) * acc (ix2 r d))
          * Ideal.rsqrt (Ideal.div (∑ k, (x (ix3 0 r k) + mr (ix3 0 0 k) * acc (ix2 r k)) * (x (ix3 0 r k) + mr (ix3 0 0 k) * acc (ix2 r k)))
              (Ideal.ofBits FTy.f32 1149239296#32) + Ideal.ofBits FTy.f32 897988541#32)
          * gn (ix2 0 d) := by
  pointwise [k0_pay2]

end Cert.MoeIdeal.Hand

end
-- ==== Proof.MoeRefValue.lean ====
/- The expert call's reference, read at an index. -/
module

public import proofs.«01_k».proof.Proof.Gen.MoeRefIdeal.Read
public import Idealize.ShloMosaic.Lib.Pipeline.ValueKit

@[expose] public section

set_option maxRecDepth 16384

noncomputable section

namespace Cert.MoeRefIdeal.Hand

open Cert.MoeRefIdeal Cert.MoeRefIdeal.Gen Cert.MoeRefIdeal.Read Idealize.ShloMosaic Idealize.ShloMosaic.TcCoe Idealize.SL.Sem

/-- The reference's hidden unit `f` of expert `e` at token `(b, r)`: `a · σ(a) · g`, of the two projections `a`, `g`. -/
theorem hid_at (h : FVec Ideal S2x8192x1024 .bf16) (w1 w3 : FVec Ideal S8x1024x3584 .bf16) (b : Fin 2) (r : Fin 8192) (e : Fin 8)
    (f : Fin 3584) :
    val_main_v7 (F := Ideal) h w1 w3 (ix4 b r e f)
      = (∑ k, h (ix3 b r k) * w1 (ix3 e k f)) * Ideal.logistic (∑ k, h (ix3 b r k) * w1 (ix3 e k f))
          * ∑ k, h (ix3 b r k) * w3 (ix3 e k f) := by
  pointwise [val_main_v7, val_main_v6, val_main_v5, val_main_v4, val_main_v2, val_main_v1, val_main_v0, val_main_call0_v5,
    val_main_call0_v4, val_main_call0_v3, val_main_call0_v2, val_main_call0_v1, val_main_call0_v0, val_main_call0_cst,
    val_main_call0_cst_0, Ideal.logistic]

/-- The reference's gated sum over the experts at `(b, r, d)`: the gate of each expert times its hidden units' projection. -/
theorem mix_at (h : FVec Ideal S2x8192x1024 .bf16) (g : FVec Ideal S2x8192x128 .f32) (w1 w3 : FVec Ideal S8x1024x3584 .bf16)
    (w2 : FVec Ideal S8x3584x1024 .bf16) (b : Fin 2) (r : Fin 8192) (d : Fin 1024) :
    val_main_v14 (F := Ideal) h g w1 w3 w2 (ix3 b r d)
      = ∑ e : Fin 8, g (ix3 b r (⟨(e : ℕ), by omega⟩ : Fin 128))
          * ∑ f : Fin 3584, ((∑ k, h (ix3 b r k) * w1 (ix3 e k f)) * Ideal.logistic (∑ k, h (ix3 b r k) * w1 (ix3 e k f))
              * ∑ k, h (ix3 b r k) * w3 (ix3 e k f)) * w2 (ix3 e f d) := by
  simp only [← hid_at]
  pointwise [val_main_v14, val_main_v13, val_main_v12, val_main_v11, val_main_v10, val_main_v9, val_main_v8, val_main_v3, val_main_cst]

/-- The reference's result: the residual plus the latent modulation row times the gated sum, normalised by its root mean square
    and scaled. -/
theorem ref_at (x : FVec Ideal S2x8192x1024 .f32) (h : FVec Ideal S2x8192x1024 .bf16) (g : FVec Ideal S2x8192x128 .f32)
    (w1 w3 : FVec Ideal S8x1024x3584 .bf16) (w2 : FVec Ideal S8x3584x1024 .bf16) (mt : FVec Ideal S4x6x1024 .f32)
    (gn : FVec Ideal S1024 .f32) (b : Fin 2) (r : Fin 8192) (d : Fin 1024) :
    val_main_v34 (F := Ideal) x h g w1 w3 w2 mt gn (ix3 b r d)
      = (x (ix3 b r d) + mt (ix3 (⟨(b : ℕ) * 2, by omega⟩ : Fin 4) 5 d) * val_main_v14 (F := Ideal) h g w1 w3 w2 (ix3 b r d))
          * Ideal.rsqrt (Ideal.div (∑ k,
              (x (ix3 b r k) + mt (ix3 (⟨(b : ℕ) * 2, by omega⟩ : Fin 4) 5 k) * val_main_v14 (F := Ideal) h g w1 w3 w2 (ix3 b r k))
                * (x (ix3 b r k) + mt (ix3 (⟨(b : ℕ) * 2, by omega⟩ : Fin 4) 5 k) * val_main_v14 (F := Ideal) h g w1 w3 w2 (ix3 b r k)))
              (Ideal.ofBits FTy.f32 1149239296#32) + Ideal.ofBits FTy.f32 897988541#32)
          * gn (ix1 d) := by
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_cst_0,
    val_main_cst_1, val_main_cst_2]

end Cert.MoeRefIdeal.Hand

end
-- ==== Proof.MoeValue.lean ====
/- The expert call: the kernel's accumulator over the sixteen steps of a token tile is the reference's gated sum over the experts, and
   the result array is the reference's result. -/
module

public import proofs.«01_k».proof.Proof.Gen.MoeIdeal.Value
public import proofs.«01_k».proof.Proof.MoePay
public import proofs.«01_k».proof.Proof.MoeRefValue
public import proofs.«01_k».proof.Pre_gates_ok
public import Idealize.ShloMosaic.Lib.Pipeline.ValueKit
public import Idealize.ShloMosaic.Lib.Pipeline.ReadBack

@[expose] public section

set_option maxRecDepth 16384

noncomputable section

namespace Cert.MoeIdeal.Hand

open Cert.MoeIdeal Cert.MoeIdeal.Gen Idealize.ShloMosaic Idealize.ShloMosaic.TcCoe Idealize.SL.Sem
open Idealize.ShloMosaic.Pipeline (Dat)

variable (m : (ℓ : Loc nD τ sig) → Buf (Elt Ideal) ℓ)

/-- The kernel's arguments as arrays: the residual, the normalised tokens, the gates, the experts' three weights, the modulation
    table and the final norm's gain. -/
abbrev aX (c : Dev nD) : FVec Ideal S2x8192x1024 .f32 := m ((c : Thread nD τ).loc main_arg0)
abbrev aH (c : Dev nD) : FVec Ideal S2x8192x1024 .bf16 := m ((c : Thread nD τ).loc main_arg1)
abbrev aG (c : Dev nD) : FVec Ideal S2x8192x128 .f32 := m ((c : Thread nD τ).loc main_arg2)
abbrev aW1 (c : Dev nD) : FVec Ideal S8x1024x3584 .bf16 := m ((c : Thread nD τ).loc main_arg3)
abbrev aW3 (c : Dev nD) : FVec Ideal S8x1024x3584 .bf16 := m ((c : Thread nD τ).loc main_arg4)
abbrev aW2 (c : Dev nD) : FVec Ideal S8x3584x1024 .bf16 := m ((c : Thread nD τ).loc main_arg5)
abbrev aM (c : Dev nD) : FVec Ideal S4x6x1024 .f32 := m ((c : Thread nD τ).loc main_arg6)
abbrev aN (c : Dev nD) : FVec Ideal S1024 .f32 := m ((c : Thread nD τ).loc main_arg7)

/-- The precondition's meaning: every expert's gate is nonnegative and below infinity. -/
theorem gates_of_pre [Cert.Pre_gates_ok.Facts] (x : FVec Ideal S2x8192x1024 .f32) (h : FVec Ideal S2x8192x1024 .bf16) (g : FVec Ideal S2x8192x128 .f32)
    (w1 w3 : FVec Ideal S8x1024x3584 .bf16) (w2 : FVec Ideal S8x3584x1024 .bf16) (mt : FVec Ideal S4x6x1024 .f32)
    (gn : FVec Ideal S1024 .f32) (hp : Cert.Pre_gates_ok.fn (F := Ideal) x h g w1 w3 w2 mt gn = fun _ => 1#1)
    (b : Fin 2) (r : Fin 8192) (e : Fin 8) :
    0 ≤ g (ix3 b r (⟨(e : ℕ), by omega⟩ : Fin 128)) ∧ g (ix3 b r (⟨(e : ℕ), by omega⟩ : Fin 128)) ≠ ⊤ := by
  have h := congrFun hp (ix3 b r e)
  revert h
  pointwise [Cert.Pre_gates_ok.fn]
  intro h
  rw [show Ideal.ofBits FTy.f32 2139095040#32 = (⊤ : EReal) from by simp [Ideal.ofBits, Ideal.ieee]] at h
  obtain ⟨h1, h2⟩ := Cert.Hand.and_bits h
  exact ⟨h1, ne_of_lt h2⟩

/-- Every window's block index at grid point `t`: token tile `t / 16`, expert `t % 16 / 2`, half `t % 2` of its hidden units. -/
theorem idx : ∀ t : Fin cfg0.N, win0_0.index t = ![t.val / 256, t.val / 16 % 16, 0] ∧ win0_1.index t = ![t.val / 256, t.val / 16 % 16, 0]
    ∧ win0_2.index t = ![t.val / 256, t.val / 16 % 16, 0] ∧ win0_3.index t = ![t.val % 16 / 2, 0, t.val % 2]
    ∧ win0_4.index t = ![t.val % 16 / 2, 0, t.val % 2] ∧ win0_5.index t = ![t.val % 16 / 2, t.val % 2, 0]
    ∧ win0_6.index t = ![2 * (t.val / 256), 0, 0] ∧ win0_7.index t = ![0, 0] ∧ win0_8.index t = ![t.val / 256, t.val / 16 % 16, 0]
    ∧ (grid0.coords t 2 : ℕ) = t.val % 16 / 2 :=
  (by decide +kernel : ∀ t : Fin grid0.N, _)

/-- What grid point `t` adds to the accumulator at `(r, d)`. -/
def term (c : Dev nD) (t : Fin cfg0.N) (j : S512x1024.Idx) : EReal :=
  ∑ f : Fin 1792, (((∑ k : Fin 1024, (show FVec Ideal S1x512x1024 .bf16 from iblk m c 1 t) (ix3 0 (j 0) k) * (show FVec Ideal S1x1024x1792 .bf16 from iblk m c 3 t) (ix3 0 k f))
        * Ideal.logistic (∑ k : Fin 1024, (show FVec Ideal S1x512x1024 .bf16 from iblk m c 1 t) (ix3 0 (j 0) k) * (show FVec Ideal S1x1024x1792 .bf16 from iblk m c 3 t) (ix3 0 k f))
        * ∑ k : Fin 1024, (show FVec Ideal S1x512x1024 .bf16 from iblk m c 1 t) (ix3 0 (j 0) k) * (show FVec Ideal S1x1024x1792 .bf16 from iblk m c 4 t) (ix3 0 k f))
      * (show FVec Ideal S1x512x128 .f32 from iblk m c 2 t) (ix3 0 (j 0) (⟨t.val % 16 / 2, by omega⟩ : Fin 128)))
    * (show FVec Ideal S1x1792x1024 .bf16 from iblk m c 5 t) (ix3 0 f (j 1))

/-- The scratch at the first step of a token tile: the tile's first term. -/
theorem acc_first (c : Dev nD) (t : Fin cfg0.N) (h : t.val % 16 = 0) (j : S512x1024.Idx) :
    (outsAt0 m c t.val t.isLt).2 j = (0 : EReal) + term m c t j := by
  idx_vars j
  rw [outsAt0_A m c t h (by omega)]
  frame_out
  rw [pay1_at _ _ _ _ _ _ _ _ _ (⟨t.val % 16 / 2, by omega⟩ : Fin 128) (idx t).2.2.2.2.2.2.2.2.2.symm, pay3_at]
  rfl

/-- The scratch at a later step: the step before's plus the step's term. -/
theorem acc_step (c : Dev nD) (t : Fin cfg0.N) (h : ¬t.val % 16 = 0) (j : S512x1024.Idx) :
    (outsAt0 m c t.val t.isLt).2 j
      = (outsAt0 m c (t.val - 1) (Nat.lt_of_le_of_lt (Nat.sub_le _ _) t.isLt)).2 j + term m c t j := by
  idx_vars j
  by_cases h1 : t.val % 16 = 15
  · rw [outsAt0_C m c t h h1]
    frame_out
    rw [pay1_at _ _ _ _ _ _ _ _ _ (⟨t.val % 16 / 2, by omega⟩ : Fin 128) (idx t).2.2.2.2.2.2.2.2.2.symm, read_unread_whole]
    rfl
  · rw [outsAt0_B m c t h h1]
    frame_out
    rw [pay1_at _ _ _ _ _ _ _ _ _ (⟨t.val % 16 / 2, by omega⟩ : Fin 128) (idx t).2.2.2.2.2.2.2.2.2.symm, read_unread_whole]
    rfl

/-- The scratch after a token tile's last step: the sum of the sixteen steps' terms. -/
theorem acc_last (c : Dev nD) (t : Fin cfg0.N) (h : t.val % 16 = 15) (j : S512x1024.Idx) :
    (outsAt0 m c t.val t.isLt).2 j
      = (0 : EReal) + ∑ s : Fin 16, term m c ⟨16 * (t.val / 16) + s.val, Pipeline.run_point_lt_of_flush t h s⟩ j :=
  Pipeline.eq_sum_fin_of_reset_step_apply_of_flush (fun n h => (outsAt0 m c n h).2) 16 (fun _ => (0 : EReal)) (term m c)
    (fun t h j => acc_first m c t h j) (fun t h j => acc_step m c t h j) t h j

/-- One term against the arrays: the gate stands in front. -/
theorem term_eq (c : Dev nD) (t : Fin cfg0.N) (r : Fin 512) (d : Fin 1024) (b : Fin 2) (q : Fin 8192) (e : Fin 8)
    (hb : (b : ℕ) = t.val / 256) (hq : (q : ℕ) = t.val / 16 % 16 * 512 + r) (he : (e : ℕ) = t.val % 16 / 2) :
    term m c t (ix2 r d) = ∑ f : Fin 1792, aG m c (ix3 b q (⟨(e : ℕ), by omega⟩ : Fin 128))
        * (((∑ k, aH m c (ix3 b q k) * aW1 m c (ix3 e k (⟨t.val % 2 * 1792 + f, by omega⟩ : Fin 3584)))
              * Ideal.logistic (∑ k, aH m c (ix3 b q k) * aW1 m c (ix3 e k (⟨t.val % 2 * 1792 + f, by omega⟩ : Fin 3584)))
              * ∑ k, aH m c (ix3 b q k) * aW3 m c (ix3 e k (⟨t.val % 2 * 1792 + f, by omega⟩ : Fin 3584)))
            * aW2 m c (ix3 e (⟨t.val % 2 * 1792 + f, by omega⟩ : Fin 3584) d)) := by
  refine Fin.sum_fin_congr fun f => ?_
  refine (Cert.Hand.mul_gate _ _ _).trans ?_
  have ht : t.val < 512 := lt_of_lt_of_eq t.isLt N_0
  blk_point [iblk, V, idx t, hb, hq, he]

/-- The accumulator after a token tile's last step is the reference's gated sum over the experts. -/
theorem acc_eq (c : Dev nD) (t : Fin cfg0.N) (h : t.val % 16 = 15) (r : Fin 512) (d : Fin 1024) (b : Fin 2) (q : Fin 8192)
    (hb : (b : ℕ) = t.val / 256) (hq : (q : ℕ) = t.val / 16 % 16 * 512 + r)
    (hg : ∀ e : Fin 8, 0 ≤ aG m c (ix3 b q (⟨(e : ℕ), by omega⟩ : Fin 128)) ∧ aG m c (ix3 b q (⟨(e : ℕ), by omega⟩ : Fin 128)) ≠ ⊤) :
    (outsAt0 m c t.val t.isLt).2 (ix2 r d)
      = Cert.MoeRefIdeal.Read.val_main_v14 (F := Ideal) (aH m c) (aG m c) (aW1 m c) (aW3 m c) (aW2 m c) (ix3 b q d) := by
  rw [Cert.MoeRefIdeal.Hand.mix_at, acc_last m c t h, zero_add]
  have hN : t.val < 512 := lt_of_lt_of_eq t.isLt N_0
  refine (Fin.sum_divmod_congr (A := 8) (S := 2) (f := fun e s => ∑ f : Fin 1792, aG m c (ix3 b q (⟨(e : ℕ), by omega⟩ : Fin 128))
        * (((∑ k, aH m c (ix3 b q k) * aW1 m c (ix3 e k (⟨s.val * 1792 + f, by omega⟩ : Fin 3584)))
              * Ideal.logistic (∑ k, aH m c (ix3 b q k) * aW1 m c (ix3 e k (⟨s.val * 1792 + f, by omega⟩ : Fin 3584)))
              * ∑ k, aH m c (ix3 b q k) * aW3 m c (ix3 e k (⟨s.val * 1792 + f, by omega⟩ : Fin 3584)))
            * aW2 m c (ix3 e (⟨s.val * 1792 + f, by omega⟩ : Fin 3584) d))) fun s ha hs => ?_).trans
    (Finset.sum_congr rfl fun e _ => ?_)
  · have hs16 := s.isLt
    refine (term_eq m c _ r d b q (⟨(s : ℕ) / 2, ha⟩ : Fin 8) ?_ ?_ ?_).trans ?_
    · rw [hb]; show _ = (16 * (t.val / 16) + (s : ℕ)) / 256; omega
    · rw [hq]; show _ = (16 * (t.val / 16) + (s : ℕ)) / 16 % 16 * 512 + (r : ℕ); omega
    · show (s : ℕ) / 2 = (16 * (t.val / 16) + (s : ℕ)) % 16 / 2; omega
    · have hm : (16 * (t.val / 16) + (s : ℕ)) % 2 = (s : ℕ) % 2 := by omega
      simp only [hm]
  · rw [Cert.Hand.gate_mul_sum _ (hg e).1 (hg e).2]
    exact Fin.sum_mul_add_congr fun s k hl => rfl

/-- What the last step of a token tile stores: its payload over the tile's blocks and the accumulator. -/
theorem last_store (c : Dev nD) (t : Fin cfg0.N) (h : t.val % 16 = 15) :
    (outsAt0 m c t.val t.isLt).1 = k0_pay2 (F := Ideal) (iblk m c 0 t)
      (View.ld (iblk m c 6 t) (Rect.unit ![0, 5, 0] ![1, 1, 1024] inb_S1x6x1024_S1x1x1024_0_5_0)) (outsAt0 m c t.val t.isLt).2 (iblk m c 7 t) := by
  rw [outsAt0_C m c t (by omega) h]
  frame_out
  rfl

/-- THE POINT: what the last step of a token tile stores at `y` of the block is the reference's result there. -/
theorem point [Cert.Pre_gates_ok.Facts] (c : Dev nD)
    (hp : Cert.Pre_gates_ok.fn (F := Ideal) (aX m c) (aH m c) (aG m c) (aW1 m c) (aW3 m c) (aW2 m c) (aM m c) (aN m c) = fun _ => 1#1)
    (t : Fin cfg0.N) (h : t.val % 16 = 15) (y : S1x512x1024.Idx) :
    (outsAt0 m c t.val t.isLt).1 y
      = Cert.MoeRefIdeal.Read.val_main_v34 (F := Ideal) (aX m c) (aH m c) (aG m c) (aW1 m c) (aW3 m c) (aW2 m c) (aM m c) (aN m c)
          (((cfg0.win 8).blk t).view.emb y) := by
  have ht : t.val < 512 := lt_of_lt_of_eq t.isLt N_0
  idx_vars y
  have he : ((cfg0.win 8).blk t).view.emb (ix3 y0 y1 y2)
      = ix3 (⟨t.val / 256, by omega⟩ : Fin 2) (⟨t.val / 16 % 16 * 512 + (y1 : ℕ), by omega⟩ : Fin 8192) y2 := by
    blk_ext [idx t]
  have hacc := fun d : Fin 1024 =>
    acc_eq m c t h y1 d (⟨t.val / 256, by omega⟩ : Fin 2) (⟨t.val / 16 % 16 * 512 + (y1 : ℕ), by omega⟩ : Fin 8192) rfl rfl
      (gates_of_pre _ _ _ _ _ _ _ _ hp _ _)
  refine Eq.trans ?_ ((congrArg _ he).trans (Cert.MoeRefIdeal.Hand.ref_at _ _ _ _ _ _ _ _ _ _ _)).symm
  simp only [← hacc]
  rw [last_store m c t h]
  generalize (outsAt0 m c t.val t.isLt).2 = acc
  rw [pay2_at]
  blk_point [iblk, V, idx t]

/-- The result array after the run is the reference's result of the argument arrays. -/
theorem final [Cert.Pre_gates_ok.Facts] (c : Dev nD)
    (hp : Cert.Pre_gates_ok.fn (F := Ideal) (aX m c) (aH m c) (aG m c) (aW1 m c) (aW3 m c) (aW2 m c) (aM m c) (aN m c) = fun _ => 1#1) :
    (dats m 0 c).arrAt 8 cfg0.N
      = Cert.MoeRefIdeal.Read.val_main_v34 (F := Ideal) (aX m c) (aH m c) (aG m c) (aW1 m c) (aW3 m c) (aW2 m c) (aM m c) (aN m c) := by
  refine (dats m 0 c).arrAt_eq_of_covers 8 _ (by decide +kernel) fun t hf y => ?_
  blk_simp
  rw [after0_8]
  exact point m c hp t ((flush0_8 t).mp hf) y

end Cert.MoeIdeal.Hand

end
-- ==== Proof.MoeClaim.lean ====
/- The expert call's claims. -/
module

public import proofs.«01_k».proof.Defs
public import proofs.«01_k».proof.Proof.Gen.Moe.Frame
public import proofs.«01_k».proof.Proof.Gen.MoeIdeal.Frame
public import proofs.«01_k».proof.Proof.MoeValue
public import Idealize.ShloMosaic.Lib.Claim
public import Idealize.ShloMosaic.Lib.Decide

@[expose] public section

set_option maxRecDepth 16384

noncomputable section

namespace Cert.Proof.Moe

open Idealize.ShloMosaic Idealize.SL.Sem

/-- The shape facts of the gates' precondition. -/
instance facts_gates : Cert.Pre_gates_ok.Facts where
  slices_S2x8192x128_S2x8192x8_0_0_0 := by decide
  bcast_S_S2x8192x8 := by decide

/-- The kernel ends with its arguments unchanged. -/
theorem frame : Cert.quiescent_Moe := fun m g _ => Cert.Moe.Gen.frame m g

/-- The idealized kernel ends with its arguments unchanged. -/
theorem frameI : Cert.quiescent_MoeIdeal := fun m g _ => Cert.MoeIdeal.Gen.frame m g

/-- … also under the gates' precondition. -/
theorem frameI_pre : Cert.quiescent_MoeIdeal_pre_gates_ok := fun m g _ => Cert.MoeIdeal.Gen.frame m g

/-- The reference ends with its arguments unchanged. -/
theorem frameR : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run m g)

/-- … also under the gates' precondition. -/
theorem frameR_pre : Cert.quiescent_MoeRefIdeal_pre_gates_ok := fun m g _ =>
  (θ_run Cert.MoeRefIdeal.defs _ _).mono (fun r h => ⟨fun c => (h c).2, sem_eq_zero_of_no_sems (by decide) r.2⟩)
    (Cert.MoeRefIdeal.Value.run m g)

/-- The idealization kept every operation. -/
theorem kept : Cert.preserves_Moe_MoeIdeal := trivial

/-- THE VALUE: the kernel's result is the reference's, whatever the arguments, if the gates are finite and not negative. -/
theorem algebraic : Cert.algebraic_MoeIdeal_MoeRefIdeal_pre_gates_ok := by
  pair_intro
  · run_from Cert.MoeIdeal.Gen.run_main m g
  · run_from Cert.MoeRefIdeal.Value.run m' g'
    refine Eq.trans ?_ (Cert.MoeIdeal.Hand.final m c (hpre c)).symm
    obtain ⟨h0, h1, h2, h3, h4, h5, h6, h7⟩ := hagree c
    rw [Cert.MoeRefIdeal.Read.val_main_v34_eq, h0, h1, h2, h3, h4, h5, h6, h7]

end Cert.Proof.Moe

end
-- ==== Proof.FfnValue.lean ====
/- The dense feed-forward call: every block the kernel writes back is the reference's term at the block's place, so the
   result array is the reference's result. -/
module

public import proofs.«01_k».proof.Proof.Gen.FfnIdeal.Frame
public import proofs.«01_k».proof.Proof.Gen.FfnRefIdeal.Read
public import Idealize.ShloMosaic.Lib.Pipeline.ValueKit

@[expose] public section

set_option maxRecDepth 16384

noncomputable section

namespace Cert.FfnRefIdeal.Hand

open Cert.FfnRefIdeal Cert.FfnRefIdeal.Gen Cert.FfnRefIdeal.Read Idealize.ShloMosaic Idealize.ShloMosaic.TcCoe Idealize.SL.Sem

/-- The reference's hidden unit `f` of token `r` of batch `b`: `a · σ(a) · g`, of the two projections `a`, `g`. -/
theorem hid_at (h : FVec Ideal S2x8448x1024 .bf16) (w1 w3 : FVec Ideal S1024x2816 .bf16) (b : Fin 2) (r : Fin 8448) (f : Fin 2816) :
    val_main_v7 (F := Ideal) h w1 w3 (ix3 b r f)
      = (∑ k, h (ix3 b r k) * w1 (ix2 k f)) * Ideal.logistic (∑ k, h (ix3 b r k) * w1 (ix2 k f)) * ∑ k, h (ix3 b r k) * w3 (ix2 k f) := by
  pointwise [val_main_v7, val_main_v6, val_main_v5, val_main_v4, val_main_v2, val_main_v1, val_main_v0, val_main_call0_v5,
    val_main_call0_v4, val_main_call0_v3, val_main_call0_v2, val_main_call0_v1, val_main_call0_v0, val_main_call0_cst,
    val_main_call0_cst_0, Ideal.logistic]

/-- The reference's result at `(b, r, d)`: the residual plus the gate row times the hidden units' projection; the gate row is
    `2 b` for the latent tokens and `2 b + 1` for the context tokens. -/
theorem ref_at (x : FVec Ideal S2x8448x1024 .f32) (h : FVec Ideal S2x8448x1024 .bf16) (w1 w3 : FVec Ideal S1024x2816 .bf16)
    (w2 : FVec Ideal S2816x1024 .bf16) (g : FVec Ideal S4x6x1024 .f32) (b : Fin 2) (r : Fin 8448) (d : Fin 1024) (q : Fin 4)
    (hq : (q : ℕ) = 2 * b + r / 8192) :
    val_main_v28 (F := Ideal) x h w1 w3 w2 g (ix3 b r d)
      = x (ix3 b r d) + g (ix3 q 5 d) * ∑ f : Fin 2816,
          ((∑ k, h (ix3 b r k) * w1 (ix2 k f)) * Ideal.logistic (∑ k, h (ix3 b r k) * w1 (ix2 k f))
            * ∑ k, h (ix3 b r k) * w3 (ix2 k f)) * w2 (ix2 f d) := by
  simp only [← hid_at]
  have hb := b.isLt
  have hr := r.isLt
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v3]
  by_cases hlt : (r : ℕ) < 8192
  · rw [dif_pos hlt, show (⟨(b : ℕ) * 2, by omega⟩ : Fin 4) = q from Fin.ext (by show (b : ℕ) * 2 = q; omega)]
  · rw [dif_neg hlt, show (⟨(b : ℕ) * 2 + 1, by omega⟩ : Fin 4) = q from Fin.ext (by show (b : ℕ) * 2 + 1 = q; omega),
      show (⟨8192 + ((r : ℕ) - 8192), by omega⟩ : Fin 8448) = r from Fin.ext (by show 8192 + ((r : ℕ) - 8192) = r; omega)]

end Cert.FfnRefIdeal.Hand

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at grid point `t`: the token tiles follow the point, the weights stay, and the modulation
    row is `2 * batch`, plus one from the first context tile on. -/
theorem idx : ∀ t : Fin cfg0.N, win0_0.index t = ![t.val / 33, t.val % 33, 0] ∧ win0_1.index t = ![t.val / 33, t.val % 33, 0]
    ∧ win0_2.index t = ![0, 0] ∧ win0_3.index t = ![0, 0] ∧ win0_4.index t = ![0, 0]
    ∧ win0_5.index t = ![2 * (t.val / 33) + t.val % 33 / 32, 0, 0] ∧ win0_6.index t = ![t.val / 33, t.val % 33, 0] :=
  (by decide +kernel : ∀ t : Fin grid0.N, _)

/-- THE POINT: what the body stores at `y` of the block of point `t` is the reference's result where `y` sits in the array. -/
theorem point (c : Dev nD) (t : Fin cfg0.N) (y : S1x256x1024.Idx) :
    out0_6 (iblk m c 0 t) (iblk m c 1 t) (iblk m c 2 t) (iblk m c 3 t) (iblk m c 4 t) (iblk m c 5 t) y
      = Cert.FfnRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (((cfg0.win 6).blk t).view.emb y) := by
  have ht : t.val < 66 := lt_of_lt_of_eq t.isLt N_0
  have hy : (y 1 : ℕ) < 256 := (y 1).isLt
  have he : ((cfg0.win 6).blk t).view.emb y
      = ix3 (⟨t.val / 33, by omega⟩ : Fin 2) (⟨t.val % 33 * 256 + (y 1 : ℕ), by omega⟩ : Fin 8448) (y 2) := by
    blk_ext [idx t]
  refine Eq.trans ?_ ((congrArg _ he).trans (Cert.FfnRefIdeal.Hand.ref_at _ _ _ _ _ _ _ _ _
    (⟨2 * (t.val / 33) + t.val % 33 / 32, by omega⟩ : Fin 4)
    (by show 2 * (t.val / 33) + t.val % 33 / 32 = 2 * (t.val / 33) + (t.val % 33 * 256 + (y 1 : ℕ)) / 8192; omega))).symm
  frame_out
  pointwise [k0_pay1]
  blk_point [iblk, V, idx t]

/-- The result array after the run is the reference's result of the argument arrays. -/
theorem final (c : Dev nD) : (dats m 0 c).arrAt 6 cfg0.N
    = Cert.FfnRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t _ y => ?_
  blk_simp
  rw [after0_6]
  exact point m c t y

end Cert.FfnIdeal.Hand

end
-- ==== Proof.FfnClaim.lean ====
/- The dense feed-forward call's claims. -/
module

public import proofs.«01_k».proof.Defs
public import proofs.«01_k».proof.Proof.Gen.Ffn.Frame
public import proofs.«01_k».proof.Proof.Gen.FfnIdeal.Frame
public import proofs.«01_k».proof.Proof.FfnValue
public import Idealize.ShloMosaic.Lib.Claim

@[expose] public section

set_option maxRecDepth 16384

noncomputable section

namespace Cert.Proof.Ffn

open Idealize.ShloMosaic Idealize.SL.Sem

/-- The kernel ends with its arguments unchanged. -/
theorem frame : Cert.quiescent_Ffn := fun m g _ => Cert.Ffn.Gen.frame m g

/-- The idealized kernel ends with its arguments unchanged. -/
theorem frameI : Cert.quiescent_FfnIdeal := fun m g _ => Cert.FfnIdeal.Gen.frame m g

/-- The reference ends with its arguments unchanged. -/
theorem frameR : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

/-- The idealization kept every operation. -/
theorem kept : Cert.preserves_Ffn_FfnIdeal := trivial

/-- THE VALUE: the kernel's result is the reference's, whatever the arguments. -/
theorem algebraic : Cert.algebraic_FfnIdeal_FfnRefIdeal := by
  pair_intro
  · run_from Cert.FfnIdeal.Gen.run_main m g
  · run_from Cert.FfnRefIdeal.Value.run m' g'
    refine Eq.trans ?_ (Cert.FfnIdeal.Hand.final m c).symm
    obtain ⟨h0, h1, h2, h3, h4, h5⟩ := hagree c
    rw [h4, h5]
    rfl

end Cert.Proof.Ffn

end
-- ==== Proof.InProjRefValue.lean ====
/- The reference's input projection, read at an index: each of its results is a column, or two columns under the rotary
   tables, of one product of the modulated token with the weights. -/
module

public import proofs.«01_k».proof.Proof.Gen.InProjRefIdeal.Read
public import Idealize.ShloMosaic.Lib.Pipeline.ValueKit

@[expose] public section

set_option maxRecDepth 16384

noncomputable section

namespace Cert.InProjRefIdeal.Hand

open Cert.InProjRefIdeal Cert.InProjRefIdeal.Gen Cert.InProjRefIdeal.Read Idealize.ShloMosaic Idealize.ShloMosaic.TcCoe Idealize.SL.Sem

variable (x : FVec Ideal S2x8448x1024 .f32) (g : FVec Ideal S4x6x1024 .f32) (w : FVec Ideal S1024x3072 .bf16)

/-- Column `col` of token `r` of batch `b`: the token normalised by its root mean square, modulated by row `q` of the table, times the
    column of the weights. -/
def proj (b : Fin 2) (r : Fin 8448) (q : Fin 4) (col : Fin 3072) : EReal :=
  ∑ k, (x (ix3 b r k) * Ideal.rsqrt (Ideal.div (∑ d, x (ix3 b r d) * x (ix3 b r d)) (Ideal.ofBits FTy.f32 1149239296#32)
          + Ideal.ofBits FTy.f32 897988541#32) * (Ideal.ofBits FTy.f32 1065353216#32 + g (ix3 q 1 k)) + g (ix3 q 0 k)) * w (ix2 k col)

/-- The latent tokens' product. -/
theorem lat_at (b : Fin 2) (r : Fin 8192) (col : Fin 3072) :
    val_main_v72 (F := Ideal) x g w (ix3 b r col)
      = proj x g w b ⟨r, by omega⟩ ⟨(b : ℕ) * 2, by omega⟩ col := by
  unfold proj
  pointwise [val_main_v72, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2]

/-- The context tokens' product. -/
theorem ctx_at (b : Fin 2) (r : Fin 256) (col : Fin 3072) :
    val_main_v81 (F := Ideal) x g w (ix3 b r col)
      = proj x g w b ⟨8192 + r, by omega⟩ ⟨(b : ℕ) * 2 + 1, by omega⟩ col := by
  unfold proj
  pointwise [val_main_v81, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_v28, val_main_v27, val_main_v26, val_main_v25, val_main_v1, val_main_v0, val_main_cst_3, val_main_cst_4, val_main_cst_5,
    val_main_cst_6]

/-- The rotary tables' cosines: the latent tokens', and 1 for the context tokens. -/
def cosT (r : Fin 8448) (d : Fin 32) : EReal := if h : (r : ℕ) < 8192 then val_main_v70 (F := Ideal) (ix2 ⟨r, h⟩ d) else 1

/-- The rotary tables' sines: the latent tokens', and 0 for the context tokens. -/
def sinT (r : Fin 8448) (d : Fin 32) : EReal := if h : (r : ℕ) < 8192 then val_main_v71 (F := Ideal) (ix2 ⟨r, h⟩ d) else 0

/-- Eight heads of 64 columns, each turned by the tables: the first 32 columns of a head against the 32 after them. -/
def turn (c s : Fin 32 → EReal) (z : Fin 512 → EReal) (j : Fin 512) : EReal :=
  if h : (j : ℕ) % 64 < 32 then z j * c ⟨(j : ℕ) % 32, by omega⟩ - z ⟨(j : ℕ) + 32, by omega⟩ * s ⟨(j : ℕ) % 32, by omega⟩
  else z j * c ⟨(j : ℕ) % 32, by omega⟩ + z ⟨(j : ℕ) - 32, by omega⟩ * s ⟨(j : ℕ) % 32, by omega⟩

/-- The 768 columns of queries or keys from column `o` on: 256 as they are, 512 turned. -/
def heads (p : Fin 3072 → EReal) (r : Fin 8448) (o : ℕ) (ho : o + 768 ≤ 3072) (l : Fin 768) : EReal :=
  if h : (l : ℕ) < 256 then p ⟨o + l, by omega⟩
  else turn (cosT r) (sinT r) (fun j => p ⟨o + 256 + j, by omega⟩) ⟨(l : ℕ) - 256, by omega⟩

/-- A turn by the context tokens' tables changes nothing. -/
theorem turn_ctx (r : Fin 8448) (hr : ¬ (r : ℕ) < 8192) (z : Fin 512 → EReal) (j : Fin 512) : turn (cosT r) (sinT r) z j = z j := by
  unfold turn cosT sinT
  simp only [dif_neg hr, mul_one, mul_zero, sub_zero, add_zero, dite_eq_ite, ite_self]

/-- The reference's turned queries. -/
theorem ropeq_at (b : Fin 2) (r : Fin 8192) (j : Fin 512) :
    val_main_v104 (F := Ideal) x g w (ix3 b r j)
      = turn (fun d => val_main_v70 (F := Ideal) (ix2 r d)) (fun d => val_main_v71 (F := Ideal) (ix2 r d))
          (fun j => val_main_v72 (F := Ideal) x g w (ix3 b r ⟨256 + j, by omega⟩)) j := by
  unfold turn
  have cs (f : FVec Ideal S8192x32 .f32) (a a' : Fin 32) (h : (a : ℕ) = a') : f (ix2 r a) = f (ix2 r a') := by rw [Fin.ext h]
  have cz (f : FVec Ideal S2x8192x3072 .f32) (a a' : Fin 3072) (h : (a : ℕ) = a') : f (ix3 b r a) = f (ix3 b r a') := by rw [Fin.ext h]
  pointwise [val_main_v104, val_main_v103, val_main_v102, val_main_v101, val_main_v100, val_main_v99, val_main_v98, val_main_v97,
    val_main_v96, val_main_v95, val_main_v94, val_main_v93, val_main_v92, val_main_v91, val_main_v90, val_main_v89, val_main_v88, val_main_v74]
  by_cases h : (j : ℕ) % 64 < 32
  · rw [dif_pos h, dif_pos h]
    exact congrArg₂ HSub.hSub (congrArg₂ HMul.hMul rfl (cs _ _ _ (by dsimp only; omega)))
      (congrArg₂ HMul.hMul (cz _ _ _ (by dsimp only; omega)) (cs _ _ _ (by dsimp only; omega)))
  · rw [dif_neg h, dif_neg h]
    exact congrArg₂ HAdd.hAdd (congrArg₂ HMul.hMul (cz _ _ _ (by dsimp only; omega)) (cs _ _ _ (by dsimp only; omega)))
      (congrArg₂ HMul.hMul (cz _ _ _ (by dsimp only; omega)) (cs _ _ _ (by dsimp only; omega)))

/-- The reference's turned keys. -/
theorem ropek_at (b : Fin 2) (r : Fin 8192) (j : Fin 512) :
    val_main_v127 (F := Ideal) x g w (ix3 b r j)
      = turn (fun d => val_main_v70 (F := Ideal) (ix2 r d)) (fun d => val_main_v71 (F := Ideal) (ix2 r d))
          (fun j => val_main_v72 (F := Ideal) x g w (ix3 b r ⟨1024 + j, by omega⟩)) j := by
  unfold turn
  have cs (f : FVec Ideal S8192x32 .f32) (a a' : Fin 32) (h : (a : ℕ) = a') : f (ix2 r a) = f (ix2 r a') := by rw [Fin.ext h]
  have cz (f : FVec Ideal S2x8192x3072 .f32) (a a' : Fin 3072) (h : (a : ℕ) = a') : f (ix3 b r a) = f (ix3 b r a') := by rw [Fin.ext h]
  pointwise [val_main_v127, val_main_v126, val_main_v125, val_main_v124, val_main_v123, val_main_v122, val_main_v121, val_main_v120,
    val_main_v119, val_main_v118, val_main_v117, val_main_v116, val_main_v115, val_main_v114, val_main_v113, val_main_v112, val_main_v111, val_main_v76]
  by_cases h : (j : ℕ) % 64 < 32
  · rw [dif_pos h, dif_pos h]
    exact congrArg₂ HSub.hSub (congrArg₂ HMul.hMul rfl (cs _ _ _ (by dsimp only; omega)))
      (congrArg₂ HMul.hMul (cz _ _ _ (by dsimp only; omega)) (cs _ _ _ (by dsimp only; omega)))
  · rw [dif_neg h, dif_neg h]
    exact congrArg₂ HAdd.hAdd (congrArg₂ HMul.hMul (cz _ _ _ (by dsimp only; omega)) (cs _ _ _ (by dsimp only; omega)))
      (congrArg₂ HMul.hMul (cz _ _ _ (by dsimp only; omega)) (cs _ _ _ (by dsimp only; omega)))

/-- A result that is one thing on the latent tokens and another on the context tokens, where both are the product. -/
theorem split (b : Fin 2) (r : Fin 8448) (q : Fin 4) (hq : (q : ℕ) = 2 * b + r / 8192) :
    (if h : (r : ℕ) < 8192 then proj x g w b r ⟨(b : ℕ) * 2, by omega⟩
      else proj x g w b ⟨8192 + ((r : ℕ) - 8192), by omega⟩ ⟨(b : ℕ) * 2 + 1, by omega⟩) = proj x g w b r q := by
  by_cases h : (r : ℕ) < 8192
  · rw [dif_pos h, show (⟨(b : ℕ) * 2, by omega⟩ : Fin 4) = q from Fin.ext (by show (b : ℕ) * 2 = q; omega)]
  · rw [dif_neg h, show (⟨(b : ℕ) * 2 + 1, by omega⟩ : Fin 4) = q from Fin.ext (by show (b : ℕ) * 2 + 1 = q; omega),
      show (⟨8192 + ((r : ℕ) - 8192), by omega⟩ : Fin 8448) = r from Fin.ext (by show 8192 + ((r : ℕ) - 8192) = r; omega)]

variable (b : Fin 2) (r : Fin 8448) (q : Fin 4) (hq : (q : ℕ) = 2 * b + r / 8192)

include hq

/-- The reference's values. -/
theorem v_at (l : Fin 768) : val_main_v133 (F := Ideal) x g w (ix3 b r l) = proj x g w b r q ⟨1536 + l, by omega⟩ := by
  pointwise [val_main_v133, val_main_v132, val_main_v77, val_main_v84, lat_at, ctx_at]
  rw [← split x g w b r q hq]
  split_ifs <;> rfl

/-- The reference's gated convolution input. -/
theorem u_at (l : Fin 256) : val_main_v136 (F := Ideal) x g w (ix3 b r l)
    = proj x g w b r q ⟨2816 + l, by omega⟩ * proj x g w b r q ⟨2304 + l, by omega⟩ := by
  pointwise [val_main_v136, val_main_v135, val_main_v134, val_main_v78, val_main_v80, val_main_v85, val_main_v87, lat_at, ctx_at]
  rw [← split x g w b r q hq]
  split_ifs <;> rfl

/-- The reference's convolution gate. -/
theorem bg_at (l : Fin 256) : val_main_v137 (F := Ideal) x g w (ix3 b r l) = proj x g w b r q ⟨2560 + l, by omega⟩ := by
  pointwise [val_main_v137, val_main_v79, val_main_v86, lat_at, ctx_at]
  rw [← split x g w b r q hq]
  split_ifs <;> rfl

/-- The reference's queries, scaled. -/
theorem q_at (l : Fin 768) : val_main_v130 (F := Ideal) x g w (ix3 b r l)
    = heads (proj x g w b r q) r 0 (by omega) l * Ideal.ofBits FTy.f32 1040187392#32 := by
  unfold heads
  pointwise [val_main_v130, val_main_v110, val_main_v109, val_main_v108, val_main_v107, val_main_v106, val_main_v105, val_main_v82, val_main_v73,
    val_main_cst_10, val_main_cst_11, ropeq_at, lat_at, ctx_at]
  by_cases hr : (r : ℕ) < 8192
  · have hc : cosT r = fun d => val_main_v70 (F := Ideal) (ix2 ⟨r, hr⟩ d) := funext fun d => dif_pos hr
    have hs : sinT r = fun d => val_main_v71 (F := Ideal) (ix2 ⟨r, hr⟩ d) := funext fun d => dif_pos hr
    rw [dif_pos hr, hc, hs, show (⟨(b : ℕ) * 2, by omega⟩ : Fin 4) = q from Fin.ext (by show (b : ℕ) * 2 = q; omega)]
  · rw [dif_neg hr, show (⟨(b : ℕ) * 2 + 1, by omega⟩ : Fin 4) = q from Fin.ext (by show (b : ℕ) * 2 + 1 = q; omega),
      show (⟨8192 + ((r : ℕ) - 8192), by omega⟩ : Fin 8448) = r from Fin.ext (by show 8192 + ((r : ℕ) - 8192) = r; omega)]
    by_cases hl : (l : ℕ) < 256
    · rw [dif_pos hl]
    · rw [dif_neg hl, turn_ctx r hr]
      exact congrArg (· * _) (congrArg _ (Fin.ext (by dsimp only; omega)))

/-- The reference's keys. -/
theorem k_at (l : Fin 768) : val_main_v131 (F := Ideal) x g w (ix3 b r l) = heads (proj x g w b r q) r 768 (by omega) l := by
  unfold heads
  pointwise [val_main_v131, val_main_v129, val_main_v128, val_main_v83, val_main_v75, ropek_at, lat_at, ctx_at]
  by_cases hr : (r : ℕ) < 8192
  · have hc : cosT r = fun d => val_main_v70 (F := Ideal) (ix2 ⟨r, hr⟩ d) := funext fun d => dif_pos hr
    have hs : sinT r = fun d => val_main_v71 (F := Ideal) (ix2 ⟨r, hr⟩ d) := funext fun d => dif_pos hr
    rw [dif_pos hr, hc, hs, show (⟨(b : ℕ) * 2, by omega⟩ : Fin 4) = q from Fin.ext (by show (b : ℕ) * 2 = q; omega)]
  · rw [dif_neg hr, show (⟨(b : ℕ) * 2 + 1, by omega⟩ : Fin 4) = q from Fin.ext (by show (b : ℕ) * 2 + 1 = q; omega),
      show (⟨8192 + ((r : ℕ) - 8192), by omega⟩ : Fin 8448) = r from Fin.ext (by show 8192 + ((r : ℕ) - 8192) = r; omega)]
    by_cases hl : (l : ℕ) < 256
    · rw [dif_pos hl]
    · rw [dif_neg hl, turn_ctx r hr]
      exact congrArg _ (Fin.ext (by dsimp only; omega))

end Cert.InProjRefIdeal.Hand

end
-- ==== Proof.InProjPay.lean ====
/- The input projection's payloads, read at an index. -/
module

public import proofs.«01_k».proof.Proof.Gen.InProjIdeal.Frame
public import proofs.«01_k».proof.Proof.InProjRefValue
public import Idealize.ShloMosaic.Lib.StableHlo.RunRead

@[expose] public section

set_option maxRecDepth 16384

noncomputable section

namespace Cert.InProjIdeal.Hand

open Cert.InProjIdeal Cert.InProjIdeal.Gen Idealize.ShloMosaic Idealize.ShloMosaic.TcCoe Idealize.SL.Sem
open Cert.InProjRefIdeal.Hand (turn cosT sinT)

/-- The tile's product: each token normalised, modulated and multiplied with a column of the weights. -/
theorem pay3_at (v0 : Vec Ideal S1x256x1024 .f32) (v12 v18 : Vec Ideal S1x1x1024 .f32) (v23 : Vec Ideal S1024x3072 .bf16) (r : Fin 256) (col : Fin 3072) :
    k0_pay3 (F := Ideal) v0 v12 v18 v23 (ix2 r col)
      = ∑ k, (v0 (ix3 0 r k) * Ideal.rsqrt (Ideal.div (∑ d, v0 (ix3 0 r d) * v0 (ix3 0 r d)) (Ideal.ofBits FTy.f32 1149239296#32)
          + Ideal.ofBits FTy.f32 897988541#32) * (Ideal.ofBits FTy.f32 1065353216#32 + v12 (ix3 0 0 k)) + v18 (ix3 0 0 k)) * v23 (ix2 k col) := by
  pointwise [k0_pay3]

/-- Whether lane `l` lies in the first half of its head, as the kernel computes it. -/
def half (l : ℕ) : BitVec 1 :=
  let n : BitVec 32 := Scalar.select (Scalar.cmpi CmpIPredicate.eq 64#32 0#32) 1#32 64#32
  let k : BitVec 32 := IntOp.remsi ArithUnit.vector (BitVec.ofNat 32 l) n
  IntOp.cmpi CmpIPredicate.slt (Scalar.select (IntOp.andi (IntOp.xori (IntOp.cmpi CmpIPredicate.slt k 0#32)
    (Scalar.cmpi CmpIPredicate.slt n 0#32)) (IntOp.cmpi CmpIPredicate.ne k 0#32)) (IntOp.addi k n) k) 32#32

/-- It does when its place in the head is below 32. -/
theorem half_eq : ∀ l : Fin 512, half l = if (l : ℕ) % 64 < 32 then 1#1 else 0#1 := by decide +kernel

/-- The rotations by 32 lanes either way, chosen by the half of the head, exchange the head's halves. -/
theorem swap (l : Fin 512) (z : Fin 512 → EReal) :
    Scalar.select (half l) (z ⟨((l : ℕ) + 512 - 480) % 512, by omega⟩) (z ⟨((l : ℕ) + 512 - 32) % 512, by omega⟩)
      = if h : (l : ℕ) % 64 < 32 then z ⟨(l : ℕ) + 32, by omega⟩ else z ⟨(l : ℕ) - 32, by omega⟩ := by
  by_cases h : (l : ℕ) % 64 < 32
  · rw [Scalar.select_of_eq_one ((half_eq l).trans (if_pos h)) _ _, dif_pos h]
    exact congrArg z (Fin.ext (by dsimp only; omega))
  · rw [Scalar.select_of_eq_zero ((half_eq l).trans (if_neg h)) _ _, dif_neg h]
    exact congrArg z (Fin.ext (by dsimp only; omega))

/-- A table's 128 lanes four times over are the table at the lane modulo 128. -/
theorem tile (c : FVec Ideal S256x128 .f32) (r : Fin 256) (l : Fin 512) :
    (if h : (l : ℕ) < 128 then c (ix2 r ⟨l, h⟩)
      else if h : (l : ℕ) - 128 < 128 then c (ix2 r ⟨(l : ℕ) - 128, h⟩)
      else if h : (l : ℕ) - 128 - 128 < 128 then c (ix2 r ⟨(l : ℕ) - 128 - 128, h⟩)
      else c (ix2 r ⟨(l : ℕ) - 128 - 128 - 128, by omega⟩)) = c (ix2 r ⟨(l : ℕ) % 128, by omega⟩) := by
  split_ifs <;> exact congrArg (fun k => c (ix2 r k)) (Fin.ext (by dsimp only; omega))

/-- The queries' turned columns: the product's columns from 256 on, each with its partner in the head, by the tables; scaled. -/
theorem pay8_at (p : FVec Ideal S256x3072 .f32) (c s : FVec Ideal S256x128 .f32) (r : Fin 256) (l : Fin 512) :
    k0_pay8 (F := Ideal) p c s (ix3 0 r l)
      = (p (ix2 r ⟨256 + l, by omega⟩) * c (ix2 r ⟨(l : ℕ) % 128, by omega⟩)
          + (if h : (l : ℕ) % 64 < 32 then p (ix2 r ⟨256 + (l + 32), by omega⟩) else p (ix2 r ⟨256 + (l - 32), by omega⟩))
            * s (ix2 r ⟨(l : ℕ) % 128, by omega⟩)) * Ideal.ofBits FTy.f32 1040187392#32 := by
  rw [← swap l fun j => p (ix2 r ⟨256 + j, by omega⟩), ← tile c r l, ← tile s r l]
  pointwise [k0_pay8]
  rfl

/-- The keys' turned columns: the product's columns from 1024 on, likewise. -/
theorem pay11_at (p : FVec Ideal S256x3072 .f32) (c s : FVec Ideal S256x128 .f32) (r : Fin 256) (l : Fin 512) :
    k0_pay11 (F := Ideal) p c s (ix3 0 r l)
      = p (ix2 r ⟨1024 + l, by omega⟩) * c (ix2 r ⟨(l : ℕ) % 128, by omega⟩)
          + (if h : (l : ℕ) % 64 < 32 then p (ix2 r ⟨1024 + (l + 32), by omega⟩) else p (ix2 r ⟨1024 + (l - 32), by omega⟩))
            * s (ix2 r ⟨(l : ℕ) % 128, by omega⟩) := by
  rw [← swap l fun j => p (ix2 r ⟨1024 + j, by omega⟩), ← tile c r l, ← tile s r l]
  pointwise [k0_pay11]
  rfl

/-- The turn by tables whose cosines repeat every 32 lanes and whose sines do so with the first half of a head negated. -/
theorem turn_of (c s : Fin 32 → EReal) (C S : Fin 128 → EReal) (hC : ∀ j : Fin 128, C j = c ⟨(j : ℕ) % 32, by omega⟩)
    (hS : ∀ j : Fin 128, S j = if (j : ℕ) % 64 < 32 then -s ⟨(j : ℕ) % 32, by omega⟩ else s ⟨(j : ℕ) % 32, by omega⟩)
    (z : Fin 512 → EReal) (l : Fin 512) :
    z l * C ⟨(l : ℕ) % 128, by omega⟩
        + (if h : (l : ℕ) % 64 < 32 then z ⟨(l : ℕ) + 32, by omega⟩ else z ⟨(l : ℕ) - 32, by omega⟩) * S ⟨(l : ℕ) % 128, by omega⟩
      = turn c s z l := by
  unfold turn
  rw [hC, hS]
  have e : ∀ h, (⟨(l : ℕ) % 128 % 32, h⟩ : Fin 32) = ⟨(l : ℕ) % 32, by omega⟩ := fun h => Fin.ext (by dsimp only; omega)
  by_cases h : (l : ℕ) % 64 < 32
  · rw [dif_pos h, dif_pos h, if_pos (show (l : ℕ) % 128 % 64 < 32 by omega), e, mul_neg, sub_eq_add_neg]
  · rw [dif_neg h, dif_neg h, if_neg (show ¬ (l : ℕ) % 128 % 64 < 32 by omega), e]

/-- The queries' unturned columns, scaled. -/
theorem pay7_at (v0 : Vec Ideal S1x256x1024 .f32) (v12 v18 : Vec Ideal S1x1x1024 .f32) (v23 : Vec Ideal S1024x3072 .bf16) (r l : Fin 256) :
    k0_pay7 (F := Ideal) (k0_pay6 v0 v12 v18 v23) (ix3 0 r l)
      = k0_pay3 (F := Ideal) v0 v12 v18 v23 (ix2 r ⟨l, by omega⟩) * Ideal.ofBits FTy.f32 1040187392#32 := by
  pointwise [k0_pay7, k0_pay6]

/-- The keys' unturned columns. -/
theorem pay10_at (p : FVec Ideal S256x3072 .f32) (r l : Fin 256) :
    k0_pay10 (F := Ideal) (k0_pay9 p) (ix3 0 r l) = p (ix2 r ⟨768 + l, by omega⟩) := by
  pointwise [k0_pay10, k0_pay9]

/-- The values. -/
theorem pay12_at (p : FVec Ideal S256x3072 .f32) (r : Fin 256) (l : Fin 768) :
    k0_pay12 (F := Ideal) p (ix3 0 r l) = p (ix2 r ⟨1536 + l, by omega⟩) := by
  pointwise [k0_pay12]

/-- The convolution's gated input. -/
theorem pay2_at (p : FVec Ideal S256x3072 .f32) (r l : Fin 256) :
    k0_pay2 (F := Ideal) p (k0_pay13 p) (ix3 0 r l) = p (ix2 r ⟨2816 + l, by omega⟩) * p (ix2 r ⟨2304 + l, by omega⟩) := by
  pointwise [k0_pay2, k0_pay13]

/-- The convolution's output gate. -/
theorem pay1_at (p : FVec Ideal S256x3072 .f32) (r l : Fin 256) :
    k0_pay1 (F := Ideal) (k0_pay14 p) (ix3 0 r l) = p (ix2 r ⟨2560 + l, by omega⟩) := by
  pointwise [k0_pay1, k0_pay14]

end Cert.InProjIdeal.Hand

end
-- ==== Proof.InProjTables.lean ====
/- The rotary tables the host computes for the input projection, entry by entry. -/
module

public import proofs.«01_k».proof.Proof.InProjPay

@[expose] public section

set_option maxRecDepth 16384

noncomputable section

namespace Cert.InProjIdeal.Hand

open Cert.InProjIdeal Cert.InProjIdeal.Gen Idealize.ShloMosaic Idealize.ShloMosaic.TcCoe Idealize.SL.Sem
open Cert.InProjRefIdeal.Hand (cosT sinT)

variable (m : (ℓ : Loc nD τ sig) → Buf (Elt Ideal) ℓ)

/-- The 8192 latent tokens' table of width 32 twice, twice again, and under it 256 rows of one constant. -/
def table (a b : FVec Ideal S8192x32 .f32) (z : BitVec 32) : FVec Ideal S8448x128 .f32 :=
  concatenate S8448x128 0 [⟨S8192x128, shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128⟩,
    ⟨S256x128, broadcastInDim S256x128 ![] bcast_S_S256x128 (constant (F := Ideal) S_ .f32 z)⟩] concatenates_S8192x128_S256x128_S8448x128_d0

/-- Its entries. -/
theorem table_at (a b : FVec Ideal S8192x32 .f32) (z : BitVec 32) (r : Fin 8448) (j : Fin 128) :
    table a b z (ix2 r j) = if h : (r : ℕ) < 8192
      then if (j : ℕ) % 64 < 32 then a (ix2 ⟨r, h⟩ ⟨(j : ℕ) % 32, by omega⟩) else b (ix2 ⟨r, h⟩ ⟨(j : ℕ) % 32, by omega⟩)
      else Ideal.ofBits FTy.f32 z := by
  pointwise [table]
  have h64 : (j : ℕ) % 64 < 64 := Nat.mod_lt _ (by decide)
  split_ifs <;> first
    | rfl
    | exact congrArg (fun k => a (ix2 ⟨r, by assumption⟩ k)) (Fin.ext (by dsimp only; omega))
    | exact congrArg (fun k => b (ix2 ⟨r, by assumption⟩ k)) (Fin.ext (by dsimp only; omega))

/-- The host's contents before the tables are laid out: the angles' cosines come next. -/
def mid (c : Dev nD) : Valuation τ sig (Elt Ideal) :=
  StableHlo.after (List.flatten [hostOps0, hostOps0_1, hostOps0_2, hostOps0_3] ++ hostOps0_4.take 7) (fun b => m (c, b))

/-- The host's contents at the call come from those by the remaining operations. -/
theorem V_mid (c : Dev nD) (b : Ref sig .tc) : V m c b = StableHlo.after (hostOps0_4.drop 7) (mid m c) b := by
  show StableHlo.after _ _ _ = _
  unfold mid
  rw [← StableHlo.after_append]
  rfl

/-- The angles are the reference's. -/
theorem ang (c : Dev nD) : mid m c main_v21 = Cert.InProjRefIdeal.Read.val_main_v69 (F := Ideal) := by
  unfold mid
  simp only [hostOps0, hostOps0_1, hostOps0_2, hostOps0_3, hostOps0_4, List.take, List.flatten_cons, List.flatten_nil, List.append_nil, List.cons_append, List.nil_append]
  after_reads_simp
  rfl

/-- The cosine table of any angles. -/
theorem cos_of (W : Valuation τ sig (Elt Ideal)) : StableHlo.after (hostOps0_4.drop 7) W main_v34
    = table (Host.cos (W main_v21)) (Host.cos (W main_v21)) 0x3F800000#32 := by
  simp only [hostOps0_4, List.drop]
  after_reads_simp
  rfl

/-- The sine table of any angles. -/
theorem sin_of (W : Valuation τ sig (Elt Ideal)) : StableHlo.after (hostOps0_4.drop 7) W main_v36
    = table (Host.negf (Host.sin (W main_v21))) (Host.sin (W main_v21)) 0x00000000#32 := by
  simp only [hostOps0_4, List.drop]
  after_reads_simp
  rfl

/-- The cosine table holds the reference's cosines every 32 lanes, and 1 for the context tokens. -/
theorem cos_at (c : Dev nD) (r : Fin 8448) (j : Fin 128) :
    (V m c main_v34 : FVec Ideal S8448x128 .f32) (ix2 r j) = cosT r ⟨(j : ℕ) % 32, by omega⟩ := by
  rw [V_mid, cos_of, ang]
  refine (table_at _ _ _ r j).trans ?_
  unfold cosT
  split_ifs
  · rfl
  · rfl
  · simp [Ideal.ofBits, Ideal.ieee, -EReal.coe_mul]
    norm_num

/-- The sine table holds the reference's sines, negated in the first half of a head, and 0 for the context tokens. -/
theorem sin_at (c : Dev nD) (r : Fin 8448) (j : Fin 128) :
    (V m c main_v36 : FVec Ideal S8448x128 .f32) (ix2 r j)
      = if (j : ℕ) % 64 < 32 then -sinT r ⟨(j : ℕ) % 32, by omega⟩ else sinT r ⟨(j : ℕ) % 32, by omega⟩ := by
  rw [V_mid, sin_of, ang]
  refine (table_at _ _ _ r j).trans ?_
  unfold sinT
  split_ifs
  · rfl
  · rfl
  · simp [Ideal.ofBits, Ideal.ieee]
  · simp [Ideal.ofBits, Ideal.ieee]

end Cert.InProjIdeal.Hand

end
-- ==== Proof.InProjValue.lean ====
/- The input projection: every block the kernel writes back is the reference's term at the block's place, so the five result
   arrays are the reference's results. -/
module

public import proofs.«01_k».proof.Proof.InProjTables
public import Idealize.ShloMosaic.Lib.Pipeline.ValueKit

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)
open Cert.InProjRefIdeal.Hand (proj heads cosT sinT)

variable (m : (ℓ : Loc nD τ sig) → Buf (Elt Ideal) ℓ)

/-- Every window's block index at grid point `t`: the token tiles follow the point, the tables the tile, the weights stay,
    and the modulation row is `2 * batch`, plus one from the first context tile on. -/
theorem idx : ∀ t : Fin cfg0.N, win0_0.index t = ![t.val / 33, t.val % 33, 0]
    ∧ win0_1.index t = ![2 * (t.val / 33) + t.val % 33 / 32, 0, 0]
    ∧ win0_2.index t = ![t.val % 33, 0] ∧ win0_3.index t = ![t.val % 33, 0] ∧ win0_4.index t = ![0, 0]
    ∧ win0_5.index t = ![t.val / 33, t.val % 33, 0] ∧ win0_6.index t = ![t.val / 33, t.val % 33, 0]
    ∧ win0_7.index t = ![t.val / 33, t.val % 33, 0] ∧ win0_8.index t = ![t.val / 33, t.val % 33, 0]
    ∧ win0_9.index t = ![t.val / 33, t.val % 33, 0] :=
  (by decide +kernel : ∀ t : Fin grid0.N, _)

/-- The batch, the token and the modulation row of row `r` of the block of point `t`. -/
def bat (t : Fin cfg0.N) : Fin 2 := ⟨t.val / 33, by have := lt_of_lt_of_eq t.isLt N_0; omega⟩
def tok (t : Fin cfg0.N) (r : Fin 256) : Fin 8448 := ⟨t.val % 33 * 256 + r, by omega⟩
def row (t : Fin cfg0.N) : Fin 4 := ⟨2 * (t.val / 33) + t.val % 33 / 32, by have := lt_of_lt_of_eq t.isLt N_0; omega⟩

theorem row_eq (t : Fin cfg0.N) (r : Fin 256) : (row t : ℕ) = 2 * bat t + tok t r / 8192 := by
  show 2 * (t.val / 33) + t.val % 33 / 32 = 2 * (t.val / 33) + (t.val % 33 * 256 + (r : ℕ)) / 8192
  omega

/-- The product the body computes at point `t`. -/
def prod (c : Dev nD) (t : Fin cfg0.N) : FVec Ideal S256x3072 .f32 :=
  k0_pay3 (iblk m c 0 t) (View.ld (iblk m c 1 t) (Rect.unit ![0, 1, 0] ![1, 1, 1024] inb_S1x6x1024_S1x1x1024_0_1_0))
    (View.ld (iblk m c 1 t) (Rect.unit ![0, 0, 0] ![1, 1, 1024] inb_S1x6x1024_S1x1x1024_0_0_0)) (iblk m c 4 t)

/-- Its entries are the reference's products. -/
theorem prod_at (c : Dev nD) (t : Fin cfg0.N) (r : Fin 256) (col : Fin 3072) :
    prod m c t (ix2 r col) = proj (m ((c : Thread nD τ).loc main_arg0)) (m ((c : Thread nD τ).loc main_arg1))
      (m ((c : Thread nD τ).loc main_arg2)) (bat t) (tok t r) (row t) col := by
  refine (pay3_at _ _ _ _ r col).trans ?_
  unfold proj bat tok row
  blk_point [iblk, V, idx t]

/-- What the body leaves for the values. -/
theorem point7 (c : Dev nD) (t : Fin cfg0.N) (r : Fin 256) (l : Fin 768) :
    (outsAt0 m c t).2.2.1 (ix3 0 r l) = Cert.InProjRefIdeal.Read.val_main_v133 (F := Ideal) (m ((c : Thread nD τ).loc main_arg0))
      (m ((c : Thread nD τ).loc main_arg1)) (m ((c : Thread nD τ).loc main_arg2)) (ix3 (bat t) (tok t r) l) := by
  refine Eq.trans ?_ (Cert.InProjRefIdeal.Hand.v_at _ _ _ _ _ _ (row_eq t r) l).symm
  unfold outsAt0
  frame_out
  exact (pay12_at (prod m c t) r l).trans (prod_at m c t r _)

/-- What the body leaves for the gated convolution inputs. -/
theorem point8 (c : Dev nD) (t : Fin cfg0.N) (r : Fin 256) (l : Fin 256) :
    (outsAt0 m c t).2.2.2.1 (ix3 0 r l) = Cert.InProjRefIdeal.Read.val_main_v136 (F := Ideal) (m ((c : Thread nD τ).loc main_arg0))
      (m ((c : Thread nD τ).loc main_arg1)) (m ((c : Thread nD τ).loc main_arg2)) (ix3 (bat t) (tok t r) l) := by
  refine Eq.trans ?_ (Cert.InProjRefIdeal.Hand.u_at _ _ _ _ _ _ (row_eq t r) l).symm
  unfold outsAt0
  frame_out
  exact (pay2_at (prod m c t) r l).trans (congrArg₂ _ (prod_at m c t r _) (prod_at m c t r _))

/-- What the body leaves for the convolution gates. -/
theorem point9 (c : Dev nD) (t : Fin cfg0.N) (r : Fin 256) (l : Fin 256) :
    (outsAt0 m c t).2.2.2.2 (ix3 0 r l) = Cert.InProjRefIdeal.Read.val_main_v137 (F := Ideal) (m ((c : Thread nD τ).loc main_arg0))
      (m ((c : Thread nD τ).loc main_arg1)) (m ((c : Thread nD τ).loc main_arg2)) (ix3 (bat t) (tok t r) l) := by
  refine Eq.trans ?_ (Cert.InProjRefIdeal.Hand.bg_at _ _ _ _ _ _ (row_eq t r) l).symm
  unfold outsAt0
  frame_out
  exact (pay1_at (prod m c t) r l).trans (prod_at m c t r _)

/-- A column below 256 lies in the first store's part of the row, … -/
theorem emb_lo (inb) (r l : Fin 256) :
    (Rect.unit (s := S1x256x768) ![0, 0, 0] ![1, 256, 256] inb).emb (ix3 0 r l) = ix3 0 r ⟨l, by omega⟩ := by
  refine funext fun a => Fin.ext ?_
  match a with
  | ⟨0, _⟩ => rfl
  | ⟨1, _⟩ => show 0 + 1 * (r : ℕ) = (r : ℕ); omega
  | ⟨2, _⟩ => show 0 + 1 * (l : ℕ) = (l : ℕ); omega

/-- … one from 256 on in the second's. -/
theorem emb_hi (inb) (r : Fin 256) (l : Fin 512) :
    (Rect.unit (s := S1x256x768) ![0, 0, 256] ![1, 256, 512] inb).emb (ix3 0 r l) = ix3 0 r ⟨256 + l, by omega⟩ := by
  refine funext fun a => Fin.ext ?_
  match a with
  | ⟨0, _⟩ => rfl
  | ⟨1, _⟩ => show 0 + 1 * (r : ℕ) = (r : ℕ); omega
  | ⟨2, _⟩ => show 256 + 1 * (l : ℕ) = 256 + (l : ℕ); omega

/-- After both stores a row holds the first payload in its first 256 columns and the second in the rest. -/
theorem both (inb) (inb') (P : S1x256x512.Idx → Elt Ideal .bf16) (Q : S1x256x256.Idx → Elt Ideal .bf16) (r : Fin 256) (l : Fin 768) :
    View.canon (Val := Elt Ideal) (s := S1x256x768) (e := .bf16)
        [⟨Rect.unit ![0, 0, 256] ![1, 256, 512] inb, P⟩, ⟨Rect.unit ![0, 0, 0] ![1, 256, 256] inb', Q⟩] (ix3 0 r l)
      = if h : (l : ℕ) < 256 then Q (ix3 0 r ⟨l, h⟩) else P (ix3 0 r ⟨l - 256, by omega⟩) := by
  by_cases h : (l : ℕ) < 256
  · rw [dif_pos h]
    refine (View.canon_cons_of_not_mem (Val := Elt Ideal) (e := .bf16) (⟨Rect.unit (s := S1x256x768) ![0, 0, 256] ![1, 256, 512] inb, P⟩) _ ?_).trans ?_
    · intro hm
      rw [Rect.mem_set_unit] at hm
      exact absurd (hm 2).1 (by show ¬(256 ≤ (l : ℕ)); omega)
    · exact emb_lo inb' r ⟨l, h⟩ ▸ View.canon_cons_emb (Val := Elt Ideal) (e := .bf16) (Rect.unit (s := S1x256x768) ![0, 0, 0] ![1, 256, 256] inb') Q [] (ix3 0 r ⟨l, h⟩)
  · rw [dif_neg h]
    have e := emb_hi inb r ⟨l - 256, by omega⟩
    rw [show (⟨256 + ((l : ℕ) - 256), by omega⟩ : Fin 768) = l from Fin.ext (by dsimp only; omega)] at e
    exact e ▸ View.canon_cons_emb (Val := Elt Ideal) (e := .bf16) (Rect.unit (s := S1x256x768) ![0, 0, 256] ![1, 256, 512] inb) P _ (ix3 0 r ⟨l - 256, by omega⟩)

/-- The cosine tile of point `t`. -/
theorem cosb (c : Dev nD) (t : Fin cfg0.N) (r : Fin 256) (j : Fin 128) :
    k0_pay4 (F := Ideal) (iblk m c 2 t) (ix2 r j) = cosT (tok t r) ⟨(j : ℕ) % 32, by omega⟩ := by
  refine Eq.trans ?_ (cos_at m c (tok t r) j)
  pointwise [k0_pay4]
  unfold tok
  blk_point [iblk, idx t]

/-- The sine tile of point `t`. -/
theorem sinb (c : Dev nD) (t : Fin cfg0.N) (r : Fin 256) (j : Fin 128) :
    k0_pay5 (F := Ideal) (iblk m c 3 t) (ix2 r j)
      = if (j : ℕ) % 64 < 32 then -sinT (tok t r) ⟨(j : ℕ) % 32, by omega⟩ else sinT (tok t r) ⟨(j : ℕ) % 32, by omega⟩ := by
  refine Eq.trans ?_ (sin_at m c (tok t r) j)
  pointwise [k0_pay5]
  unfold tok
  blk_point [iblk, idx t]

/-- The turned columns of the product from column `o` on. -/
theorem turned (c : Dev nD) (t : Fin cfg0.N) (r : Fin 256) (o : ℕ) (ho : o + 512 ≤ 3072) (l : Fin 512) :
    prod m c t (ix2 r ⟨o + l, by omega⟩) * k0_pay4 (F := Ideal) (iblk m c 2 t) (ix2 r ⟨(l : ℕ) % 128, by omega⟩)
          + (if h : (l : ℕ) % 64 < 32 then prod m c t (ix2 r ⟨o + (l + 32), by omega⟩) else prod m c t (ix2 r ⟨o + (l - 32), by omega⟩))
            * k0_pay5 (F := Ideal) (iblk m c 3 t) (ix2 r ⟨(l : ℕ) % 128, by omega⟩)
      = Cert.InProjRefIdeal.Hand.turn (cosT (tok t r)) (sinT (tok t r)) (fun j => proj (m ((c : Thread nD τ).loc main_arg0))
          (m ((c : Thread nD τ).loc main_arg1)) (m ((c : Thread nD τ).loc main_arg2)) (bat t) (tok t r) (row t) ⟨o + j, by omega⟩) l := by
  simp only [prod_at]
  exact turn_of _ _ (fun j => k0_pay4 (F := Ideal) (iblk m c 2 t) (ix2 r j)) (fun j => k0_pay5 (F := Ideal) (iblk m c 3 t) (ix2 r j))
    (cosb m c t r) (sinb m c t r) (fun j => proj _ _ _ (bat t) (tok t r) (row t) ⟨o + j, by omega⟩) l

/-- What the body leaves for the queries. -/
theorem point5 (c : Dev nD) (t : Fin cfg0.N) (r : Fin 256) (l : Fin 768) :
    (outsAt0 m c t).1 (ix3 0 r l) = Cert.InProjRefIdeal.Read.val_main_v130 (F := Ideal) (m ((c : Thread nD τ).loc main_arg0))
      (m ((c : Thread nD τ).loc main_arg1)) (m ((c : Thread nD τ).loc main_arg2)) (ix3 (bat t) (tok t r) l) := by
  refine Eq.trans ?_ (Cert.InProjRefIdeal.Hand.q_at _ _ _ _ _ _ (row_eq t r) l).symm
  unfold outsAt0 heads
  frame_out
  refine (both _ _ _ _ r l).trans ?_
  split_ifs with h
  · exact (pay7_at _ _ _ _ r ⟨l, h⟩).trans (congrArg (· * _) ((prod_at m c t r ⟨l, by omega⟩).trans
      (congrArg _ (Fin.ext (by dsimp only; omega)))))
  · exact (pay8_at (prod m c t) _ _ r ⟨l - 256, by omega⟩).trans (congrArg (· * _) (turned m c t r 256 (by omega) ⟨l - 256, by omega⟩))

/-- What the body leaves for the keys. -/
theorem point6 (c : Dev nD) (t : Fin cfg0.N) (r : Fin 256) (l : Fin 768) :
    (outsAt0 m c t).2.1 (ix3 0 r l) = Cert.InProjRefIdeal.Read.val_main_v131 (F := Ideal) (m ((c : Thread nD τ).loc main_arg0))
      (m ((c : Thread nD τ).loc main_arg1)) (m ((c : Thread nD τ).loc main_arg2)) (ix3 (bat t) (tok t r) l) := by
  refine Eq.trans ?_ (Cert.InProjRefIdeal.Hand.k_at _ _ _ _ _ _ (row_eq t r) l).symm
  unfold outsAt0 heads
  frame_out
  refine (both _ _ _ _ r l).trans ?_
  split_ifs with h
  · exact (pay10_at (prod m c t) r ⟨l, h⟩).trans (prod_at m c t r _)
  · exact (pay11_at (prod m c t) _ _ r ⟨l - 256, by omega⟩).trans (turned m c t r 1024 (by omega) ⟨l - 256, by omega⟩)

end Cert.InProjIdeal.Hand

end
-- ==== Proof.InProjFinal.lean ====
/- The input projection's five result arrays after the run are the reference's results. -/
module

public import proofs.«01_k».proof.Proof.InProjValue

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)
open Cert.InProjRefIdeal.Hand (proj heads cosT sinT)

variable (m : (ℓ : Loc nD τ sig) → Buf (Elt Ideal) ℓ)

/-- A block's index is a row and a column. -/
theorem row0 {n : ℕ} (y : (⟨3, ![1, 256, n]⟩ : Shape).Idx) : ∃ (r : Fin 256) (l : Fin n), y = ix3 0 r l :=
  ⟨y 1, y 2, (eq_ix3 y).trans (congrArg (fun a : Fin 1 => ix3 a (y 1) (y 2)) (Subsingleton.elim _ _))⟩

/-- Where row `r`, column `l` of the queries' block of point `t` sits in the array. -/
theorem emb5 (t : Fin cfg0.N) (r : Fin 256) (l : Fin 768) : ((cfg0.win 5).blk t).view.emb (ix3 0 r l : S1x256x768.Idx) = ix3 (bat t) (tok t r) l := by
  unfold bat tok
  blk_ext [idx t]
/-- What the body leaves there is the reference's result there. -/
theorem at5 (c : Dev nD) (t : Fin cfg0.N) (y : S1x256x768.Idx) : (outsAt0 m c t).1 y
    = Cert.InProjRefIdeal.Read.val_main_v130 (F := Ideal) (m ((c : Thread nD τ).loc main_arg0))
      (m ((c : Thread nD τ).loc main_arg1)) (m ((c : Thread nD τ).loc main_arg2)) (((cfg0.win 5).blk t).view.emb y) := by
  obtain ⟨r, l, rfl⟩ := row0 y
  rw [emb5 t r l]
  exact point5 m c t r l
/-- The queries' array after the run is the reference's. -/
theorem final5 (c : Dev nD) : (dats m 0 c).arrAt 5 cfg0.N = Cert.InProjRefIdeal.Read.val_main_v130 (F := Ideal) (m ((c : Thread nD τ).loc main_arg0))
      (m ((c : Thread nD τ).loc main_arg1)) (m ((c : Thread nD τ).loc main_arg2)) := by
  refine (dats m 0 c).arrAt_eq_of_covers 5 _ (by decide +kernel) fun t _ y => ?_
  blk_simp
  rw [after0_5]
  exact at5 m c t y

/-- Where row `r`, column `l` of the keys' block of point `t` sits in the array. -/
theorem emb6 (t : Fin cfg0.N) (r : Fin 256) (l : Fin 768) : ((cfg0.win 6).blk t).view.emb (ix3 0 r l : S1x256x768.Idx) = ix3 (bat t) (tok t r) l := by
  unfold bat tok
  blk_ext [idx t]
/-- What the body leaves there is the reference's result there. -/
theorem at6 (c : Dev nD) (t : Fin cfg0.N) (y : S1x256x768.Idx) : (outsAt0 m c t).2.1 y
    = Cert.InProjRefIdeal.Read.val_main_v131 (F := Ideal) (m ((c : Thread nD τ).loc main_arg0))
      (m ((c : Thread nD τ).loc main_arg1)) (m ((c : Thread nD τ).loc main_arg2)) (((cfg0.win 6).blk t).view.emb y) := by
  obtain ⟨r, l, rfl⟩ := row0 y
  rw [emb6 t r l]
  exact point6 m c t r l
/-- The keys' array after the run is the reference's. -/
theorem final6 (c : Dev nD) : (dats m 0 c).arrAt 6 cfg0.N = Cert.InProjRefIdeal.Read.val_main_v131 (F := Ideal) (m ((c : Thread nD τ).loc main_arg0))
      (m ((c : Thread nD τ).loc main_arg1)) (m ((c : Thread nD τ).loc main_arg2)) := by
  refine (dats m 0 c).arrAt_eq_of_covers 6 _ (by decide +kernel) fun t _ y => ?_
  blk_simp
  rw [after0_6]
  exact at6 m c t y

/-- Where row `r`, column `l` of the values' block of point `t` sits in the array. -/
theorem emb7 (t : Fin cfg0.N) (r : Fin 256) (l : Fin 768) : ((cfg0.win 7).blk t).view.emb (ix3 0 r l : S1x256x768.Idx) = ix3 (bat t) (tok t r) l := by
  unfold bat tok
  blk_ext [idx t]
/-- What the body leaves there is the reference's result there. -/
theorem at7 (c : Dev nD) (t : Fin cfg0.N) (y : S1x256x768.Idx) : (outsAt0 m c t).2.2.1 y
    = Cert.InProjRefIdeal.Read.val_main_v133 (F := Ideal) (m ((c : Thread nD τ).loc main_arg0))
      (m ((c : Thread nD τ).loc main_arg1)) (m ((c : Thread nD τ).loc main_arg2)) (((cfg0.win 7).blk t).view.emb y) := by
  obtain ⟨r, l, rfl⟩ := row0 y
  rw [emb7 t r l]
  exact point7 m c t r l
/-- The values' array after the run is the reference's. -/
theorem final7 (c : Dev nD) : (dats m 0 c).arrAt 7 cfg0.N = Cert.InProjRefIdeal.Read.val_main_v133 (F := Ideal) (m ((c : Thread nD τ).loc main_arg0))
      (m ((c : Thread nD τ).loc main_arg1)) (m ((c : Thread nD τ).loc main_arg2)) := by
  refine (dats m 0 c).arrAt_eq_of_covers 7 _ (by decide +kernel) fun t _ y => ?_
  blk_simp
  rw [after0_7]
  exact at7 m c t y

/-- Where row `r`, column `l` of the gated convolution inputs' block of point `t` sits in the array. -/
theorem emb8 (t : Fin cfg0.N) (r : Fin 256) (l : Fin 256) : ((cfg0.win 8).blk t).view.emb (ix3 0 r l : S1x256x256.Idx) = ix3 (bat t) (tok t r) l := by
  unfold bat tok
  blk_ext [idx t]
/-- What the body leaves there is the reference's result there. -/
theorem at8 (c : Dev nD) (t : Fin cfg0.N) (y : S1x256x256.Idx) : (outsAt0 m c t).2.2.2.1 y
    = Cert.InProjRefIdeal.Read.val_main_v136 (F := Ideal) (m ((c : Thread nD τ).loc main_arg0))
      (m ((c : Thread nD τ).loc main_arg1)) (m ((c : Thread nD τ).loc main_arg2)) (((cfg0.win 8).blk t).view.emb y) := by
  obtain ⟨r, l, rfl⟩ := row0 y
  rw [emb8 t r l]
  exact point8 m c t r l
/-- The gated convolution inputs' array after the run is the reference's. -/
theorem final8 (c : Dev nD) : (dats m 0 c).arrAt 8 cfg0.N = Cert.InProjRefIdeal.Read.val_main_v136 (F := Ideal) (m ((c : Thread nD τ).loc main_arg0))
      (m ((c : Thread nD τ).loc main_arg1)) (m ((c : Thread nD τ).loc main_arg2)) := by
  refine (dats m 0 c).arrAt_eq_of_covers 8 _ (by decide +kernel) fun t _ y => ?_
  blk_simp
  rw [after0_8]
  exact at8 m c t y

/-- Where row `r`, column `l` of the convolution gates' block of point `t` sits in the array. -/
theorem emb9 (t : Fin cfg0.N) (r : Fin 256) (l : Fin 256) : ((cfg0.win 9).blk t).view.emb (ix3 0 r l : S1x256x256.Idx) = ix3 (bat t) (tok t r) l := by
  unfold bat tok
  blk_ext [idx t]
/-- What the body leaves there is the reference's result there. -/
theorem at9 (c : Dev nD) (t : Fin cfg0.N) (y : S1x256x256.Idx) : (outsAt0 m c t).2.2.2.2 y
    = Cert.InProjRefIdeal.Read.val_main_v137 (F := Ideal) (m ((c : Thread nD τ).loc main_arg0))
      (m ((c : Thread nD τ).loc main_arg1)) (m ((c : Thread nD τ).loc main_arg2)) (((cfg0.win 9).blk t).view.emb y) := by
  obtain ⟨r, l, rfl⟩ := row0 y
  rw [emb9 t r l]
  exact point9 m c t r l
/-- The convolution gates' array after the run is the reference's. -/
theorem final9 (c : Dev nD) : (dats m 0 c).arrAt 9 cfg0.N = Cert.InProjRefIdeal.Read.val_main_v137 (F := Ideal) (m ((c : Thread nD τ).loc main_arg0))
      (m ((c : Thread nD τ).loc main_arg1)) (m ((c : Thread nD τ).loc main_arg2)) := by
  refine (dats m 0 c).arrAt_eq_of_covers 9 _ (by decide +kernel) fun t _ y => ?_
  blk_simp
  rw [after0_9]
  exact at9 m c t y

end Cert.InProjIdeal.Hand

end
-- ==== Proof.InProjClaim.lean ====
/- The claims about the input projection: both layers' token tiles normalised, modulated, projected and turned. -/
module

public import proofs.«01_k».proof.Defs
public import proofs.«01_k».proof.Proof.Gen.InProj.Frame
public import proofs.«01_k».proof.Proof.Gen.InProjIdeal.Frame
public import proofs.«01_k».proof.Proof.Gen.InProjIdeal.Value
public import proofs.«01_k».proof.Proof.InProjFinal
public import Idealize.ShloMosaic.Lib.Claim

@[expose] public section

set_option maxRecDepth 16384

noncomputable section

namespace Cert.Proof.InProj

open Idealize.ShloMosaic Idealize.SL.Sem

/-- The kernel ends with its arguments unchanged. -/
theorem frame : Cert.quiescent_InProj := fun m g _ => Cert.InProj.Gen.frame m g

/-- The idealized kernel ends with its arguments unchanged. -/
theorem frameI : Cert.quiescent_InProjIdeal := fun m g _ => Cert.InProjIdeal.Gen.frame m g

/-- The reference ends with its arguments unchanged. -/
theorem frameR : Cert.quiescent_InProjRefIdeal := fun m g _ =>
  (θ_run Cert.InProjRefIdeal.defs _ _).mono
    (fun r h => ⟨fun c => (h c).2.2.2.2.2, sem_eq_zero_of_no_sems (by decide) r.2⟩)
    (Cert.InProjRefIdeal.Value.run m g)

/-- The idealization kept every operation. -/
theorem kept : Cert.preserves_InProj_InProjIdeal := trivial

/-- Equal arguments give equal results. -/
theorem eq3 {α β γ δ : Type} (f : α → β → γ → δ) {a a' : α} {b b' : β} {d d' : γ} (ha : a = a') (hb : b = b') (hd : d = d') :
    f a b d = f a' b' d' := by rw [ha, hb, hd]

/-- THE VALUE: the kernel's five results are the reference's, whatever the arguments. -/
theorem algebraic : Cert.algebraic_InProjIdeal_InProjRefIdeal := by
  intro m g m' g' _ hagree
  refine ⟨fun c => Cert.InProjRefIdeal.Read.val_main_v130 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v131 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v133 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v136 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v137 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · refine (θ_run Cert.InProjIdeal.defs _ _).mono (fun r h c => ?_) (Cert.InProjIdeal.Value.run_blocks m g)
    obtain ⟨h5, h6, h7, h8, h9, ha⟩ := h c
    exact ⟨h5.trans (Cert.InProjIdeal.Hand.final5 m c), h6.trans (Cert.InProjIdeal.Hand.final6 m c),
      h7.trans (Cert.InProjIdeal.Hand.final7 m c), h8.trans (Cert.InProjIdeal.Hand.final8 m c),
      h9.trans (Cert.InProjIdeal.Hand.final9 m c), ha⟩
  · refine (θ_run Cert.InProjRefIdeal.defs _ _).mono (fun r h c => ?_) (Cert.InProjRefIdeal.Value.run m' g')
    obtain ⟨h5, h6, h7, h8, h9, ha⟩ := h c
    obtain ⟨e0, e1, e2⟩ := hagree c
    exact ⟨h5.trans ((Cert.InProjRefIdeal.Read.val_main_v130_eq _).trans (eq3 (Cert.InProjRefIdeal.Read.val_main_v130 (F := Ideal)) e0 e1 e2)),
      h6.trans ((Cert.InProjRefIdeal.Read.val_main_v131_eq _).trans (eq3 (Cert.InProjRefIdeal.Read.val_main_v131 (F := Ideal)) e0 e1 e2)),
      h7.trans ((Cert.InProjRefIdeal.Read.val_main_v133_eq _).trans (eq3 (Cert.InProjRefIdeal.Read.val_main_v133 (F := Ideal)) e0 e1 e2)),
      h8.trans ((Cert.InProjRefIdeal.Read.val_main_v136_eq _).trans (eq3 (Cert.InProjRefIdeal.Read.val_main_v136 (F := Ideal)) e0 e1 e2)),
      h9.trans ((Cert.InProjRefIdeal.Read.val_main_v137_eq _).trans (eq3 (Cert.InProjRefIdeal.Read.val_main_v137 (F := Ideal)) e0 e1 e2)), ha⟩

end Cert.Proof.InProj

end
-- ==== Proof.lean ====
/- The proof of the certificate's claims, call by call. -/
module

public import proofs.«01_k».proof.Defs
public import proofs.«01_k».proof.Proof.DiffClaim
public import proofs.«01_k».proof.Proof.DiffTwoClaim
public import proofs.«01_k».proof.Proof.MoeClaim
public import proofs.«01_k».proof.Proof.FfnClaim
public import proofs.«01_k».proof.Proof.InProjClaim
public import proofs.«01_k».proof.Proof.Gen.Diff
public import proofs.«01_k».proof.Proof.Gen.DiffIdeal
public import proofs.«01_k».proof.Proof.Gen.DiffRefIdeal
public import proofs.«01_k».proof.Proof.Gen.Moe
public import proofs.«01_k».proof.Proof.Gen.MoeIdeal
public import proofs.«01_k».proof.Proof.Gen.MoeRefIdeal
public import proofs.«01_k».proof.Proof.Gen.Ffn
public import proofs.«01_k».proof.Proof.Gen.FfnIdeal
public import proofs.«01_k».proof.Proof.Gen.FfnRefIdeal
public import proofs.«01_k».proof.Proof.Gen.InProj
public import proofs.«01_k».proof.Proof.Gen.InProjIdeal
public import proofs.«01_k».proof.Proof.Gen.InProjRefIdeal
public import proofs.«01_k».proof.Proof.Gen.DiffTwo
public import proofs.«01_k».proof.Proof.Gen.DiffTwoIdeal
public import proofs.«01_k».proof.Proof.Gen.DiffTwoRefIdeal

@[expose] public section

noncomputable section

namespace Cert.Proof

open Idealize.ShloMosaic Idealize.SL.Sem

/-- Everything the certificate claims. -/
theorem claim : Cert.Claim :=
  ⟨Cert.Diff.Gen.facts, Cert.DiffIdeal.Gen.facts, Cert.DiffRefIdeal.Gen.facts,
    Cert.Moe.Gen.facts, Cert.MoeIdeal.Gen.facts, Cert.MoeRefIdeal.Gen.facts,
    Cert.Ffn.Gen.facts, Cert.FfnIdeal.Gen.facts, Cert.FfnRefIdeal.Gen.facts,
    Cert.InProj.Gen.facts, Cert.InProjIdeal.Gen.facts, Cert.InProjRefIdeal.Gen.facts,
    Cert.DiffTwo.Gen.facts, Cert.DiffTwoIdeal.Gen.facts, Cert.DiffTwoRefIdeal.Gen.facts, Diff.facts_finite, Moe.facts_gates,
    Diff.frame, Diff.frameI, Diff.frameI_pre, Diff.frameR, Diff.frameR_pre,
    Moe.frame, Moe.frameI, Moe.frameI_pre, Moe.frameR, Moe.frameR_pre, Ffn.frame, Ffn.frameI, Ffn.frameR,
    InProj.frame, InProj.frameI, InProj.frameR,
    DiffTwo.frame, DiffTwo.frameI, DiffTwo.frameI_pre, DiffTwo.frameR, DiffTwo.frameR_pre,
    Diff.kept, Diff.algebraic, Moe.kept, Moe.algebraic, Ffn.kept, Ffn.algebraic, InProj.kept, InProj.algebraic,
    DiffTwo.kept, DiffTwo.algebraic⟩

end Cert.Proof

end
